-- ==== Defs.lean ====
def Pre_Kernel [hPre_bounds : Cert.Pre_bounds.Facts] (m : (ℓ : Loc Cert.Kernel.nD Cert.Kernel.τ Cert.Kernel.sig) → Buf (Elt Bits) ℓ) : Prop :=
  ∀ c : Dev Cert.Kernel.nD,
    (Cert.Pre_bounds.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_bounds : Cert.Pre_bounds.Facts] (m : (ℓ : Loc Cert.KernelIdeal.nD Cert.KernelIdeal.τ Cert.KernelIdeal.sig) → Buf (Elt Ideal) ℓ) : Prop :=
  ∀ c : Dev Cert.KernelIdeal.nD,
    (Cert.Pre_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounds [hPre_bounds : Cert.Pre_bounds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_bounds : Cert.Pre_bounds.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_bounds : Cert.Pre_bounds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bounds [hReferenceIdeal : Cert.ReferenceIdeal.Facts] [hPre_bounds : Cert.Pre_bounds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_bounds : Cert.Pre_bounds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bounds : Cert.Pre_bounds.Facts),
    quiescent_Kernel (hKernel := hKernel) (hPre_bounds := hPre_bounds)
    ∧ quiescent_KernelIdeal (hKernelIdeal := hKernelIdeal) (hPre_bounds := hPre_bounds)
    ∧ quiescent_ReferenceIdeal (hReferenceIdeal := hReferenceIdeal)
    ∧ quiescent_ReferenceIdeal_pre_bounds (hReferenceIdeal := hReferenceIdeal) (hPre_bounds := hPre_bounds)
    ∧ preserves_Kernel_KernelIdeal
    ∧ algebraic_KernelIdeal_ReferenceIdeal (hKernelIdeal := hKernelIdeal) (hReferenceIdeal := hReferenceIdeal) (hPre_bounds := hPre_bounds)
-- ==== Pre_bounds.lean ====
abbrev S32768x4 : Shape := ⟨2, ![32768, 4]⟩
abbrev S17 : Shape := ⟨1, ![17]⟩
abbrev S1 : Shape := ⟨1, ![1]⟩
abbrev S_ : Shape := ⟨0, ![]⟩
abbrev S16 : Shape := ⟨1, ![16]⟩

class Facts : Prop where
  slices_S17_S1_0 : S17.Slices ![0] S1
  shapeCasts_S1_S_ : S1.ShapeCasts S_
  slices_S17_S1_16 : S17.Slices ![16] S1
  slices_S17_S16_0 : S17.Slices ![0] S16
  slices_S17_S16_1 : S17.Slices ![1] S16
  reducesTo_S16_S_d0 : S16.ReducesTo [0] S_
  h_S_ : 0 < S_.numel

variable [Facts]

def fn {F : FTy → Type} [FloatOps F] (main_arg0 : FVec F S32768x4 .f32) (main_arg1 : IVec S17 32) (main_arg2 : FVec F S32768x4 .f32) (main_arg3 : FVec F S32768x4 .f32) : IVec S_ 1 :=
  let main_v0 : IVec S1 32 := (extractStridedSlice S1 ![0] · slices_S17_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![16] · slices_S17_S1_16) main_arg1
  let main_v4 : IVec S_ 32 := shapeCast S_ main_v3 shapeCasts_S1_S_
  let main_c_0 : IVec S_ 32 := constantI S_ 32 32768#32
  let main_v5 : IVec S_ 1 := cmpi .eq main_v4 main_c_0
  let main_v6 : IVec S_ 1 := andi main_v2 main_v5
  let main_v7 : IVec S16 32 := (extractStridedSlice S16 ![0] · slices_S17_S16_0) main_arg1
  let main_v8 : IVec S16 32 := (extractStridedSlice S16 ![1] · slices_S17_S16_1) main_arg1
  let main_v9 : IVec S16 1 := cmpi .sle main_v7 main_v8
  let main_c_1 : IVec S_ 1 := constantI S_ 1 1#1
  let main_v10 : IVec S_ 1 := (fun x v => Host.reduce IntOp.andi x v reducesTo_S16_S_d0 h_S_) main_v9 main_c_1
  let main_v11 : IVec S_ 1 := andi main_v6 main_v10
  main_v11
-- ==== Kernel.lean ====
abbrev S32768x4 : Shape := ⟨2, ![32768, 4]⟩
abbrev S17 : Shape := ⟨1, ![17]⟩
abbrev S256x128x4 : Shape := ⟨3, ![256, 128, 4]⟩
abbrev S256x4x128 : Shape := ⟨3, ![256, 4, 128]⟩
abbrev S33 : Shape := ⟨1, ![33]⟩
abbrev S8x4x128 : Shape := ⟨3, ![8, 4, 128]⟩
abbrev S9x4x128 : Shape := ⟨3, ![9, 4, 128]⟩
abbrev S1184 : Shape := ⟨1, ![1184]⟩
abbrev S_ : Shape := ⟨0, ![]⟩
abbrev S16 : Shape := ⟨1, ![16]⟩
abbrev S1 : Shape := ⟨1, ![1]⟩
abbrev S1x1x16 : Shape := ⟨3, ![1, 1, 16]⟩

abbrev nBuf : Table → Nat
  | .hbm => 13
  | .local .scVector .vmem => 12
  | _ => 0

abbrev bufTy : (tb : Table) → Fin (nBuf tb) → BufTy
  | .hbm, ⟨0, _⟩ => ⟨S32768x4, .f32⟩
  | .hbm, ⟨1, _⟩ => ⟨S17, .i32⟩
  | .hbm, ⟨2, _⟩ => ⟨S32768x4, .f32⟩
  | .hbm, ⟨3, _⟩ => ⟨S32768x4, .f32⟩
  | .hbm, ⟨4, _⟩ => ⟨S256x128x4, .f32⟩
  | .hbm, ⟨5, _⟩ => ⟨S256x4x128, .f32⟩
  | .hbm, ⟨6, _⟩ => ⟨S256x128x4, .f32⟩
  | .hbm, ⟨7, _⟩ => ⟨S256x4x128, .f32⟩
  | .hbm, ⟨8, _⟩ => ⟨S256x128x4, .f32⟩
  | .hbm, ⟨9, _⟩ => ⟨S256x4x128, .f32⟩
  | .hbm, ⟨10, _⟩ => ⟨S256x4x128, .f32⟩
  | .hbm, ⟨11, _⟩ => ⟨S256x128x4, .f32⟩
  | .hbm, ⟨12, _⟩ => ⟨S32768x4, .f32⟩
  | .local .scVector .vmem, ⟨0, _⟩ => ⟨S33, .i32⟩
  | .local .scVector .vmem, ⟨1, _⟩ => ⟨S8x4x128, .f32⟩
  | .local .scVector .vmem, ⟨2, _⟩ => ⟨S9x4x128, .f32⟩
  | .local .scVector .vmem, ⟨3, _⟩ => ⟨S9x4x128, .f32⟩
  | .local .scVector .vmem, ⟨4, _⟩ => ⟨S1184, .f32⟩
  | .local .scVector .vmem, ⟨5, _⟩ => ⟨S1184, .f32⟩
  | .local .scVector .vmem, ⟨6, _⟩ => ⟨S1184, .f32⟩
  | .local .scVector .vmem, ⟨7, _⟩ => ⟨S1184, .f32⟩
  | .local .scVector .vmem, ⟨8, _⟩ => ⟨S1184, .f32⟩
  | .local .scVector .vmem, ⟨9, _⟩ => ⟨S1184, .f32⟩
  | .local .scVector .vmem, ⟨10, _⟩ => ⟨S1184, .f32⟩
  | .local .scVector .vmem, ⟨11, _⟩ => ⟨S1184, .f32⟩
  | _, _ => ⟨S32768x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v1_scv : Ref sig .scVector := ⟨.hbm, 5, rfl⟩
abbrev main_arg1_scv : Ref sig .scVector := ⟨.hbm, 1, rfl⟩
abbrev main_v3_scv : Ref sig .scVector := ⟨.hbm, 7, rfl⟩
abbrev main_v5_scv : Ref sig .scVector := ⟨.hbm, 9, rfl⟩
abbrev main_v6_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 32 := Scalar.muli v1 c8_i32
  let c0_i32 : BitVec 32 := 0#32
  let c0_i32_0 : BitVec 32 := 0#32
  ![v3.toNat, 0, 0]
@[reducible] def k0_t1_loop : Scf.Loop 32 :=
  let c0_i32_8 : BitVec 32 := 0#32
  let c16_i32 : BitVec 32 := 16#32
  let v9 : BitVec 32 := Scalar.addi c0_i32_8 c16_i32
  let c1_i32 : BitVec 32 := 1#32
  ⟨c0_i32_8, v9, c1_i32⟩
def k0_off2 (k0_t1 : Fin k0_t1_loop.trips) : Fin 1 → Nat :=
  let c0_i32_8 : BitVec 32 := 0#32
  let c1_i32 : BitVec 32 := 1#32
  let arg23 : BitVec 32 := Scf.iv c0_i32_8 c1_i32 k0_t1
  let v14 : Index := Scalar.indexCast arg23
  ![v14.toNat]
def k0_off3 (k0_t1 : Fin k0_t1_loop.trips) : Fin 1 → Nat :=
  let c0_i32_8 : BitVec 32 := 0#32
  let c1_i32 : BitVec 32 := 1#32
  let arg23 : BitVec 32 := Scf.iv c0_i32_8 c1_i32 k0_t1
  let c1_i32_18 : BitVec 32 := 1#32
  let v19 : BitVec 32 := Scalar.addi arg23 c1_i32_18
  let v20 : Index := Scalar.indexCast v19
  ![v20.toNat]
def k0_off4 (i : grid0.Coords) (v18 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v37 : BitVec 32 := Scalar.subi v2 v18
  let c0_i32_23 : BitVec 32 := 0#32
  let v38 : BitVec 32 := Scalar.maxsi v37 c0_i32_23
  let c7_i32 : BitVec 32 := 7#32
  let v39 : BitVec 32 := Scalar.shrui v38 c7_i32
  let c247_i32 : BitVec 32 := 247#32
  let v40 : BitVec 32 := Scalar.minsi v39 c247_i32
  let c0_i32_24 : BitVec 32 := 0#32
  let c0_i32_25 : BitVec 32 := 0#32
  ![v40.toNat, 0, 0]
def k0_cond1 (i : grid0.Coords) (v18 : BitVec 32) (v24 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1024_i32_19 : BitVec 32 := 1024#32
  let v25 : BitVec 32 := Scalar.addi v2 c1024_i32_19
  let v26 : BitVec 1 := Scalar.cmpi .slt v18 v25
  let v27 : BitVec 1 := Scalar.cmpi .sgt v24 v2
  let v28 : BitVec 1 := Scalar.andi v26 v27
  let v29 : BitVec 1 := Scalar.cmpi .sgt v24 v18
  let v30 : BitVec 1 := Scalar.andi v28 v29
  let v31 : BitVec 32 := Scalar.extui v30
  let c0_i32_20 : BitVec 32 := 0#32
  let v32 : BitVec 1 := Scalar.cmpi .ne v31 c0_i32_20
  v32

@[reducible] def k0_t2_loop : Scf.Loop 32 :=
  let c0_i32_41 : BitVec 32 := 0#32
  let c9_i32 : BitVec 32 := 9#32
  let v49 : BitVec 32 := Scalar.addi c0_i32_41 c9_i32
  let c1_i32_42 : BitVec 32 := 1#32
  ⟨c0_i32_41, v49, c1_i32_42⟩
def k0_off5 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v63 : Index := Scalar.indexCast arg24
  let c0_i32_52 : BitVec 32 := 0#32
  let v64 : Index := Scalar.indexCast c0_i32_52
  let c0 : Index := 0#32
  ![v63.toNat, 0, 0]
def k0_off6 (k0_t2 : Fin k0_t2_loop.trips) (c0_i32_55 : BitVec 32) : Fin 1 → Nat :=
  let c16_i32_54 : BitVec 32 := 16#32
  let c0_i32_41 : BitVec 32 := 0#32
  let c1_i32_42 : BitVec 32 := 1#32
  let arg24 : BitVec 32 := Scf.iv c0_i32_41 c1_i32_42 k0_t2
  let c128_i32_53 : BitVec 32 := 128#32
  let v67 : BitVec 32 := Scalar.muli arg24 c128_i32_53
  let v68 : BitVec 32 := Scalar.addi c16_i32_54 v67
  let v69 : BitVec 32 := Scalar.addi v68 c0_i32_55
  let v70 : Index := Scalar.indexCast v69
  ![v70.toNat]
def k0_off7 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v85 : Index := Scalar.indexCast arg24
  let c0_i32_61 : BitVec 32 := 0#32
  let v86 : Index := Scalar.indexCast c0_i32_61
  let c16 : Index := 16#32
  ![v85.toNat, 0, 16]
def k0_off8 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v107 : Index := Scalar.indexCast arg24
  let c0_i32_70 : BitVec 32 := 0#32
  let v108 : Index := Scalar.indexCast c0_i32_70
  let c32 : Index := 32#32
  ![v107.toNat, 0, 32]
def k0_off9 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v129 : Index := Scalar.indexCast arg24
  let c0_i32_78 : BitVec 32 := 0#32
  let v130 : Index := Scalar.indexCast c0_i32_78
  let c48 : Index := 48#32
  ![v129.toNat, 0, 48]
def k0_off10 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v151 : Index := Scalar.indexCast arg24
  let c0_i32_86 : BitVec 32 := 0#32
  let v152 : Index := Scalar.indexCast c0_i32_86
  let c64 : Index := 64#32
  ![v151.toNat, 0, 64]
def k0_off11 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v173 : Index := Scalar.indexCast arg24
  let c0_i32_94 : BitVec 32 := 0#32
  let v174 : Index := Scalar.indexCast c0_i32_94
  let c80 : Index := 80#32
  ![v173.toNat, 0, 80]
def k0_off12 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v195 : Index := Scalar.indexCast arg24
  let c0_i32_102 : BitVec 32 := 0#32
  let v196 : Index := Scalar.indexCast c0_i32_102
  let c96 : Index := 96#32
  ![v195.toNat, 0, 96]
def k0_off13 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v217 : Index := Scalar.indexCast arg24
  let c0_i32_110 : BitVec 32 := 0#32
  let v218 : Index := Scalar.indexCast c0_i32_110
  let c112 : Index := 112#32
  ![v217.toNat, 0, 112]
def k0_off14 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v239 : Index := Scalar.indexCast arg24
  let c1_i32_118 : BitVec 32 := 1#32
  let v240 : Index := Scalar.indexCast c1_i32_118
  let c0_119 : Index := 0#32
  ![v239.toNat, 1, 0]
def k0_off15 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v261 : Index := Scalar.indexCast arg24
  let c1_i32_128 : BitVec 32 := 1#32
  let v262 : Index := Scalar.indexCast c1_i32_128
  let c16_129 : Index := 16#32
  ![v261.toNat, 1, 16]
def k0_off16 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v283 : Index := Scalar.indexCast arg24
  let c1_i32_138 : BitVec 32 := 1#32
  let v284 : Index := Scalar.indexCast c1_i32_138
  let c32_139 : Index := 32#32
  ![v283.toNat, 1, 32]
def k0_off17 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v305 : Index := Scalar.indexCast arg24
  let c1_i32_148 : BitVec 32 := 1#32
  let v306 : Index := Scalar.indexCast c1_i32_148
  let c48_149 : Index := 48#32
  ![v305.toNat, 1, 48]
def k0_off18 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v327 : Index := Scalar.indexCast arg24
  let c1_i32_158 : BitVec 32 := 1#32
  let v328 : Index := Scalar.indexCast c1_i32_158
  let c64_159 : Index := 64#32
  ![v327.toNat, 1, 64]
def k0_off19 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v349 : Index := Scalar.indexCast arg24
  let c1_i32_168 : BitVec 32 := 1#32
  let v350 : Index := Scalar.indexCast c1_i32_168
  let c80_169 : Index := 80#32
  ![v349.toNat, 1, 80]
def k0_off20 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v371 : Index := Scalar.indexCast arg24
  let c1_i32_178 : BitVec 32 := 1#32
  let v372 : Index := Scalar.indexCast c1_i32_178
  let c96_179 : Index := 96#32
  ![v371.toNat, 1, 96]
def k0_off21 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v393 : Index := Scalar.indexCast arg24
  let c1_i32_188 : BitVec 32 := 1#32
  let v394 : Index := Scalar.indexCast c1_i32_188
  let c112_189 : Index := 112#32
  ![v393.toNat, 1, 112]
def k0_off22 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v415 : Index := Scalar.indexCast arg24
  let c2_i32_198 : BitVec 32 := 2#32
  let v416 : Index := Scalar.indexCast c2_i32_198
  let c0_199 : Index := 0#32
  ![v415.toNat, 2, 0]
def k0_off23 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v437 : Index := Scalar.indexCast arg24
  let c2_i32_208 : BitVec 32 := 2#32
  let v438 : Index := Scalar.indexCast c2_i32_208
  let c16_209 : Index := 16#32
  ![v437.toNat, 2, 16]
def k0_off24 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v459 : Index := Scalar.indexCast arg24
  let c2_i32_218 : BitVec 32 := 2#32
  let v460 : Index := Scalar.indexCast c2_i32_218
  let c32_219 : Index := 32#32
  ![v459.toNat, 2, 32]
def k0_off25 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v481 : Index := Scalar.indexCast arg24
  let c2_i32_228 : BitVec 32 := 2#32
  let v482 : Index := Scalar.indexCast c2_i32_228
  let c48_229 : Index := 48#32
  ![v481.toNat, 2, 48]
def k0_off26 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v503 : Index := Scalar.indexCast arg24
  let c2_i32_238 : BitVec 32 := 2#32
  let v504 : Index := Scalar.indexCast c2_i32_238
  let c64_239 : Index := 64#32
  ![v503.toNat, 2, 64]
def k0_off27 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v525 : Index := Scalar.indexCast arg24
  let c2_i32_248 : BitVec 32 := 2#32
  let v526 : Index := Scalar.indexCast c2_i32_248
  let c80_249 : Index := 80#32
  ![v525.toNat, 2, 80]
def k0_off28 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v547 : Index := Scalar.indexCast arg24
  let c2_i32_258 : BitVec 32 := 2#32
  let v548 : Index := Scalar.indexCast c2_i32_258
  let c96_259 : Index := 96#32
  ![v547.toNat, 2, 96]
def k0_off29 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v569 : Index := Scalar.indexCast arg24
  let c2_i32_268 : BitVec 32 := 2#32
  let v570 : Index := Scalar.indexCast c2_i32_268
  let c112_269 : Index := 112#32
  ![v569.toNat, 2, 112]
def k0_off30 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v591 : Index := Scalar.indexCast arg24
  let c3_i32 : BitVec 32 := 3#32
  let v592 : Index := Scalar.indexCast c3_i32
  let c0_278 : Index := 0#32
  ![v591.toNat, 3, 0]
def k0_off31 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v613 : Index := Scalar.indexCast arg24
  let c3_i32_287 : BitVec 32 := 3#32
  let v614 : Index := Scalar.indexCast c3_i32_287
  let c16_288 : Index := 16#32
  ![v613.toNat, 3, 16]
def k0_off32 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v635 : Index := Scalar.indexCast arg24
  let c3_i32_297 : BitVec 32 := 3#32
  let v636 : Index := Scalar.indexCast c3_i32_297
  let c32_298 : Index := 32#32
  ![v635.toNat, 3, 32]
def k0_off33 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v657 : Index := Scalar.indexCast arg24
  let c3_i32_307 : BitVec 32 := 3#32
  let v658 : Index := Scalar.indexCast c3_i32_307
  let c48_308 : Index := 48#32
  ![v657.toNat, 3, 48]
def k0_off34 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v679 : Index := Scalar.indexCast arg24
  let c3_i32_317 : BitVec 32 := 3#32
  let v680 : Index := Scalar.indexCast c3_i32_317
  let c64_318 : Index := 64#32
  ![v679.toNat, 3, 64]
def k0_off35 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v701 : Index := Scalar.indexCast arg24
  let c3_i32_327 : BitVec 32 := 3#32
  let v702 : Index := Scalar.indexCast c3_i32_327
  let c80_328 : Index := 80#32
  ![v701.toNat, 3, 80]
def k0_off36 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v723 : Index := Scalar.indexCast arg24
  let c3_i32_337 : BitVec 32 := 3#32
  let v724 : Index := Scalar.indexCast c3_i32_337
  let c96_338 : Index := 96#32
  ![v723.toNat, 3, 96]
def k0_off37 (k0_t2 : Fin k0_t2_loop.trips) : Fin 3 → Nat :=
  let c0_i32_41 : BitVec 32 := 0#32
  let c1_i32_42 : BitVec 32 := 1#32
  let arg24 : BitVec 32 := Scf.iv c0_i32_41 c1_i32_42 k0_t2
  let v745 : Index := Scalar.indexCast arg24
  let c3_i32_347 : BitVec 32 := 3#32
  let v746 : Index := Scalar.indexCast c3_i32_347
  let c112_348 : Index := 112#32
  ![v745.toNat, 3, 112]
@[reducible] def k0_t3_loop (i : grid0.Coords) (v18 : BitVec 32) (v24 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.subi v18 v2
  let c0_i32_21 : BitVec 32 := 0#32
  let v34 : BitVec 32 := Scalar.maxsi v33 c0_i32_21
  let c4_i32 : BitVec 32 := 4#32
  let v54 : BitVec 32 := Scalar.shrui v34 c4_i32
  let v35 : BitVec 32 := Scalar.subi v24 v2
  let c1024_i32_22 : BitVec 32 := 1024#32
  let v36 : BitVec 32 := Scalar.minsi v35 c1024_i32_22
  let c1_i32_45 : BitVec 32 := 1#32
  let v55 : BitVec 32 := Scalar.subi v36 c1_i32_45
  let c4_i32_46 : BitVec 32 := 4#32
  let v56 : BitVec 32 := Scalar.shrui v55 c4_i32_46
  let c1_i32_47 : BitVec 32 := 1#32
  let v57 : BitVec 32 := Scalar.addi v56 c1_i32_47
  let v58 : BitVec 32 := Scalar.subi v57 v54
  let c1_i32_49 : BitVec 32 := 1#32
  let v60 : BitVec 32 := Scalar.divsi v58 c1_i32_49
  let v61 : BitVec 32 := Scalar.muli v60 c1_i32_49
  let v62 : BitVec 32 := Scalar.addi v54 v61
  let c1_i32_50 : BitVec 32 := 1#32
  ⟨v54, v62, c1_i32_50⟩
def k0_off38 (i : grid0.Coords) (v18 : BitVec 32) (v24 : BitVec 32) (k0_t3 : Fin (k0_t3_loop i v18 v24).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.subi v18 v2
  let c0_i32_21 : BitVec 32 := 0#32
  let v34 : BitVec 32 := Scalar.maxsi v33 c0_i32_21
  let c4_i32 : BitVec 32 := 4#32
  let v54 : BitVec 32 := Scalar.shrui v34 c4_i32
  let c1_i32_50 : BitVec 32 := 1#32
  let arg24 : BitVec 32 := Scf.iv v54 c1_i32_50 k0_t3
  let c16_i32_52 : BitVec 32 := 16#32
  let v63 : BitVec 32 := Scalar.muli arg24 c16_i32_52
  let c7_i32_53 : BitVec 32 := 7#32
  let v64 : BitVec 32 := Scalar.shrui v63 c7_i32_53
  let v74 : Index := Scalar.indexCast v64
  let c0_i32_54 : BitVec 32 := 0#32
  let v75 : Index := Scalar.indexCast c0_i32_54
  let c127_i32 : BitVec 32 := 127#32
  let v65 : BitVec 32 := Scalar.andi v63 c127_i32
  let v76 : Index := Scalar.indexCast v65
  ![v74.toNat, 0, v76.toNat]
def k0_off39 (i : grid0.Coords) (v18 : BitVec 32) (v24 : BitVec 32) (k0_t3 : Fin (k0_t3_loop i v18 v24).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.subi v18 v2
  let c0_i32_21 : BitVec 32 := 0#32
  let v34 : BitVec 32 := Scalar.maxsi v33 c0_i32_21
  let c4_i32 : BitVec 32 := 4#32
  let v54 : BitVec 32 := Scalar.shrui v34 c4_i32
  let c1_i32_50 : BitVec 32 := 1#32
  let arg24 : BitVec 32 := Scf.iv v54 c1_i32_50 k0_t3
  let c16_i32_52 : BitVec 32 := 16#32
  let v63 : BitVec 32 := Scalar.muli arg24 c16_i32_52
  let v50 : BitVec 32 := Scalar.subi v2 v18
  let v37 : BitVec 32 := Scalar.subi v2 v18
  let c0_i32_23 : BitVec 32 := 0#32
  let v38 : BitVec 32 := Scalar.maxsi v37 c0_i32_23
  let c7_i32 : BitVec 32 := 7#32
  let v39 : BitVec 32 := Scalar.shrui v38 c7_i32
  let c247_i32 : BitVec 32 := 247#32
  let v40 : BitVec 32 := Scalar.minsi v39 c247_i32
  let c128_i32 : BitVec 32 := 128#32
  let v51 : BitVec 32 := Scalar.muli v40 c128_i32
  let v52 : BitVec 32 := Scalar.subi v50 v51
  let c16_i32_44 : BitVec 32 := 16#32
  let v53 : BitVec 32 := Scalar.addi v52 c16_i32_44
  let v73 : BitVec 32 := Scalar.addi v63 v53
  let v79 : Index := Scalar.indexCast v73
  ![v79.toNat]
def k0_off40 (i : grid0.Coords) (v18 : BitVec 32) (v24 : BitVec 32) (k0_t3 : Fin (k0_t3_loop i v18 v24).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.subi v18 v2
  let c0_i32_21 : BitVec 32 := 0#32
  let v34 : BitVec 32 := Scalar.maxsi v33 c0_i32_21
  let c4_i32 : BitVec 32 := 4#32
  let v54 : BitVec 32 := Scalar.shrui v34 c4_i32
  let c1_i32_50 : BitVec 32 := 1#32
  let arg24 : BitVec 32 := Scf.iv v54 c1_i32_50 k0_t3
  let c16_i32_52 : BitVec 32 := 16#32
  let v63 : BitVec 32 := Scalar.muli arg24 c16_i32_52
  let c7_i32_53 : BitVec 32 := 7#32
  let v64 : BitVec 32 := Scalar.shrui v63 c7_i32_53
  let v94 : Index := Scalar.indexCast v64
  let c1_i32_56 : BitVec 32 := 1#32
  let v95 : Index := Scalar.indexCast c1_i32_56
  let c127_i32 : BitVec 32 := 127#32
  let v65 : BitVec 32 := Scalar.andi v63 c127_i32
  let v96 : Index := Scalar.indexCast v65
  ![v94.toNat, 1, v96.toNat]
def k0_off41 (i : grid0.Coords) (v18 : BitVec 32) (v24 : BitVec 32) (k0_t3 : Fin (k0_t3_loop i v18 v24).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.subi v18 v2
  let c0_i32_21 : BitVec 32 := 0#32
  let v34 : BitVec 32 := Scalar.maxsi v33 c0_i32_21
  let c4_i32 : BitVec 32 := 4#32
  let v54 : BitVec 32 := Scalar.shrui v34 c4_i32
  let c1_i32_50 : BitVec 32 := 1#32
  let arg24 : BitVec 32 := Scf.iv v54 c1_i32_50 k0_t3
  let c16_i32_52 : BitVec 32 := 16#32
  let v63 : BitVec 32 := Scalar.muli arg24 c16_i32_52
  let c7_i32_53 : BitVec 32 := 7#32
  let v64 : BitVec 32 := Scalar.shrui v63 c7_i32_53
  let v114 : Index := Scalar.indexCast v64
  let c2_i32_58 : BitVec 32 := 2#32
  let v115 : Index := Scalar.indexCast c2_i32_58
  let c127_i32 : BitVec 32 := 127#32
  let v65 : BitVec 32 := Scalar.andi v63 c127_i32
  let v116 : Index := Scalar.indexCast v65
  ![v114.toNat, 2, v116.toNat]
def k0_off42 (i : grid0.Coords) (v18 : BitVec 32) (v24 : BitVec 32) (k0_t3 : Fin (k0_t3_loop i v18 v24).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.subi v18 v2
  let c0_i32_21 : BitVec 32 := 0#32
  let v34 : BitVec 32 := Scalar.maxsi v33 c0_i32_21
  let c4_i32 : BitVec 32 := 4#32
  let v54 : BitVec 32 := Scalar.shrui v34 c4_i32
  let c1_i32_50 : BitVec 32 := 1#32
  let arg24 : BitVec 32 := Scf.iv v54 c1_i32_50 k0_t3
  let c16_i32_52 : BitVec 32 := 16#32
  let v63 : BitVec 32 := Scalar.muli arg24 c16_i32_52
  let c7_i32_53 : BitVec 32 := 7#32
  let v64 : BitVec 32 := Scalar.shrui v63 c7_i32_53
  let v134 : Index := Scalar.indexCast v64
  let c3_i32 : BitVec 32 := 3#32
  let v135 : Index := Scalar.indexCast c3_i32
  let c127_i32 : BitVec 32 := 127#32
  let v65 : BitVec 32 := Scalar.andi v63 c127_i32
  let v136 : Index := Scalar.indexCast v65
  ![v134.toNat, 3, v136.toNat]
@[reducible] def k0_t4_loop (i : grid0.Coords) (v18 : BitVec 32) (v24 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.subi v18 v2
  let c0_i32_21 : BitVec 32 := 0#32
  let v34 : BitVec 32 := Scalar.maxsi v33 c0_i32_21
  let c4_i32 : BitVec 32 := 4#32
  let v54 : BitVec 32 := Scalar.shrui v34 c4_i32
  let v35 : BitVec 32 := Scalar.subi v24 v2
  let c1024_i32_22 : BitVec 32 := 1024#32
  let v36 : BitVec 32 := Scalar.minsi v35 c1024_i32_22
  let c1_i32_45 : BitVec 32 := 1#32
  let v55 : BitVec 32 := Scalar.subi v36 c1_i32_45
  let c4_i32_46 : BitVec 32 := 4#32
  let v56 : BitVec 32 := Scalar.shrui v55 c4_i32_46
  let c1_i32_47 : BitVec 32 := 1#32
  let v57 : BitVec 32 := Scalar.addi v56 c1_i32_47
  let v58 : BitVec 32 := Scalar.subi v57 v54
  let c1_i32_49 : BitVec 32 := 1#32
  let v60 : BitVec 32 := Scalar.divsi v58 c1_i32_49
  let v61 : BitVec 32 := Scalar.muli v60 c1_i32_49
  let v62 : BitVec 32 := Scalar.addi v54 v61
  let v59 : BitVec 32 := Scalar.addi v54 v58
  let c1_i32_51 : BitVec 32 := 1#32
  ⟨v62, v59, c1_i32_51⟩
def k0_off43 (i : grid0.Coords) (v18 : BitVec 32) (v24 : BitVec 32) (k0_t4 : Fin (k0_t4_loop i v18 v24).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.subi v18 v2
  let c0_i32_21 : BitVec 32 := 0#32
  let v34 : BitVec 32 := Scalar.maxsi v33 c0_i32_21
  let c4_i32 : BitVec 32 := 4#32
  let v54 : BitVec 32 := Scalar.shrui v34 c4_i32
  let v35 : BitVec 32 := Scalar.subi v24 v2
  let c1024_i32_22 : BitVec 32 := 1024#32
  let v36 : BitVec 32 := Scalar.minsi v35 c1024_i32_22
  let c1_i32_45 : BitVec 32 := 1#32
  let v55 : BitVec 32 := Scalar.subi v36 c1_i32_45
  let c4_i32_46 : BitVec 32 := 4#32
  let v56 : BitVec 32 := Scalar.shrui v55 c4_i32_46
  let c1_i32_47 : BitVec 32 := 1#32
  let v57 : BitVec 32 := Scalar.addi v56 c1_i32_47
  let v58 : BitVec 32 := Scalar.subi v57 v54
  let c1_i32_49 : BitVec 32 := 1#32
  let v60 : BitVec 32 := Scalar.divsi v58 c1_i32_49
  let v61 : BitVec 32 := Scalar.muli v60 c1_i32_49
  let v62 : BitVec 32 := Scalar.addi v54 v61
  let c1_i32_51 : BitVec 32 := 1#32
  let arg24 : BitVec 32 := Scf.iv v62 c1_i32_51 k0_t4
  let c16_i32_52 : BitVec 32 := 16#32
  let v63 : BitVec 32 := Scalar.muli arg24 c16_i32_52
  let c7_i32_53 : BitVec 32 := 7#32
  let v64 : BitVec 32 := Scalar.shrui v63 c7_i32_53
  let v74 : Index := Scalar.indexCast v64
  let c0_i32_54 : BitVec 32 := 0#32
  let v75 : Index := Scalar.indexCast c0_i32_54
  let c127_i32 : BitVec 32 := 127#32
  let v65 : BitVec 32 := Scalar.andi v63 c127_i32
  let v76 : Index := Scalar.indexCast v65
  ![v74.toNat, 0, v76.toNat]
def k0_off44 (i : grid0.Coords) (v18 : BitVec 32) (v24 : BitVec 32) (k0_t4 : Fin (k0_t4_loop i v18 v24).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.subi v18 v2
  let c0_i32_21 : BitVec 32 := 0#32
  let v34 : BitVec 32 := Scalar.maxsi v33 c0_i32_21
  let c4_i32 : BitVec 32 := 4#32
  let v54 : BitVec 32 := Scalar.shrui v34 c4_i32
  let v35 : BitVec 32 := Scalar.subi v24 v2
  let c1024_i32_22 : BitVec 32 := 1024#32
  let v36 : BitVec 32 := Scalar.minsi v35 c1024_i32_22
  let c1_i32_45 : BitVec 32 := 1#32
  let v55 : BitVec 32 := Scalar.subi v36 c1_i32_45
  let c4_i32_46 : BitVec 32 := 4#32
  let v56 : BitVec 32 := Scalar.shrui v55 c4_i32_46
  let c1_i32_47 : BitVec 32 := 1#32
  let v57 : BitVec 32 := Scalar.addi v56 c1_i32_47
  let v58 : BitVec 32 := Scalar.subi v57 v54
  let c1_i32_49 : BitVec 32 := 1#32
  let v60 : BitVec 32 := Scalar.divsi v58 c1_i32_49
  let v61 : BitVec 32 := Scalar.muli v60 c1_i32_49
  let v62 : BitVec 32 := Scalar.addi v54 v61
  let c1_i32_51 : BitVec 32 := 1#32
  let arg24 : BitVec 32 := Scf.iv v62 c1_i32_51 k0_t4
  let c16_i32_52 : BitVec 32 := 16#32
  let v63 : BitVec 32 := Scalar.muli arg24 c16_i32_52
  let v50 : BitVec 32 := Scalar.subi v2 v18
  let v37 : BitVec 32 := Scalar.subi v2 v18
  let c0_i32_23 : BitVec 32 := 0#32
  let v38 : BitVec 32 := Scalar.maxsi v37 c0_i32_23
  let c7_i32 : BitVec 32 := 7#32
  let v39 : BitVec 32 := Scalar.shrui v38 c7_i32
  let c247_i32 : BitVec 32 := 247#32
  let v40 : BitVec 32 := Scalar.minsi v39 c247_i32
  let c128_i32 : BitVec 32 := 128#32
  let v51 : BitVec 32 := Scalar.muli v40 c128_i32
  let v52 : BitVec 32 := Scalar.subi v50 v51
  let c16_i32_44 : BitVec 32 := 16#32
  let v53 : BitVec 32 := Scalar.addi v52 c16_i32_44
  let v73 : BitVec 32 := Scalar.addi v63 v53
  let v79 : Index := Scalar.indexCast v73
  ![v79.toNat]
def k0_off45 (i : grid0.Coords) (v18 : BitVec 32) (v24 : BitVec 32) (k0_t4 : Fin (k0_t4_loop i v18 v24).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.subi v18 v2
  let c0_i32_21 : BitVec 32 := 0#32
  let v34 : BitVec 32 := Scalar.maxsi v33 c0_i32_21
  let c4_i32 : BitVec 32 := 4#32
  let v54 : BitVec 32 := Scalar.shrui v34 c4_i32
  let v35 : BitVec 32 := Scalar.subi v24 v2
  let c1024_i32_22 : BitVec 32 := 1024#32
  let v36 : BitVec 32 := Scalar.minsi v35 c1024_i32_22
  let c1_i32_45 : BitVec 32 := 1#32
  let v55 : BitVec 32 := Scalar.subi v36 c1_i32_45
  let c4_i32_46 : BitVec 32 := 4#32
  let v56 : BitVec 32 := Scalar.shrui v55 c4_i32_46
  let c1_i32_47 : BitVec 32 := 1#32
  let v57 : BitVec 32 := Scalar.addi v56 c1_i32_47
  let v58 : BitVec 32 := Scalar.subi v57 v54
  let c1_i32_49 : BitVec 32 := 1#32
  let v60 : BitVec 32 := Scalar.divsi v58 c1_i32_49
  let v61 : BitVec 32 := Scalar.muli v60 c1_i32_49
  let v62 : BitVec 32 := Scalar.addi v54 v61
  let c1_i32_51 : BitVec 32 := 1#32
  let arg24 : BitVec 32 := Scf.iv v62 c1_i32_51 k0_t4
  let c16_i32_52 : BitVec 32 := 16#32
  let v63 : BitVec 32 := Scalar.muli arg24 c16_i32_52
  let c7_i32_53 : BitVec 32 := 7#32
  let v64 : BitVec 32 := Scalar.shrui v63 c7_i32_53
  let v94 : Index := Scalar.indexCast v64
  let c1_i32_56 : BitVec 32 := 1#32
  let v95 : Index := Scalar.indexCast c1_i32_56
  let c127_i32 : BitVec 32 := 127#32
  let v65 : BitVec 32 := Scalar.andi v63 c127_i32
  let v96 : Index := Scalar.indexCast v65
  ![v94.toNat, 1, v96.toNat]
def k0_off46 (i : grid0.Coords) (v18 : BitVec 32) (v24 : BitVec 32) (k0_t4 : Fin (k0_t4_loop i v18 v24).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.subi v18 v2
  let c0_i32_21 : BitVec 32 := 0#32
  let v34 : BitVec 32 := Scalar.maxsi v33 c0_i32_21
  let c4_i32 : BitVec 32 := 4#32
  let v54 : BitVec 32 := Scalar.shrui v34 c4_i32
  let v35 : BitVec 32 := Scalar.subi v24 v2
  let c1024_i32_22 : BitVec 32 := 1024#32
  let v36 : BitVec 32 := Scalar.minsi v35 c1024_i32_22
  let c1_i32_45 : BitVec 32 := 1#32
  let v55 : BitVec 32 := Scalar.subi v36 c1_i32_45
  let c4_i32_46 : BitVec 32 := 4#32
  let v56 : BitVec 32 := Scalar.shrui v55 c4_i32_46
  let c1_i32_47 : BitVec 32 := 1#32
  let v57 : BitVec 32 := Scalar.addi v56 c1_i32_47
  let v58 : BitVec 32 := Scalar.subi v57 v54
  let c1_i32_49 : BitVec 32 := 1#32
  let v60 : BitVec 32 := Scalar.divsi v58 c1_i32_49
  let v61 : BitVec 32 := Scalar.muli v60 c1_i32_49
  let v62 : BitVec 32 := Scalar.addi v54 v61
  let c1_i32_51 : BitVec 32 := 1#32
  let arg24 : BitVec 32 := Scf.iv v62 c1_i32_51 k0_t4
  let c16_i32_52 : BitVec 32 := 16#32
  let v63 : BitVec 32 := Scalar.muli arg24 c16_i32_52
  let c7_i32_53 : BitVec 32 := 7#32
  let v64 : BitVec 32 := Scalar.shrui v63 c7_i32_53
  let v114 : Index := Scalar.indexCast v64
  let c2_i32_58 : BitVec 32 := 2#32
  let v115 : Index := Scalar.indexCast c2_i32_58
  let c127_i32 : BitVec 32 := 127#32
  let v65 : BitVec 32 := Scalar.andi v63 c127_i32
  let v116 : Index := Scalar.indexCast v65
  ![v114.toNat, 2, v116.toNat]
def k0_off47 (i : grid0.Coords) (v18 : BitVec 32) (v24 : BitVec 32) (k0_t4 : Fin (k0_t4_loop i v18 v24).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v33 : BitVec 32 := Scalar.subi v18 v2
  let c0_i32_21 : BitVec 32 := 0#32
  let v34 : BitVec 32 := Scalar.maxsi v33 c0_i32_21
  let c4_i32 : BitVec 32 := 4#32
  let v54 : BitVec 32 := Scalar.shrui v34 c4_i32
  let v35 : BitVec 32 := Scalar.subi v24 v2
  let c1024_i32_22 : BitVec 32 := 1024#32
  let v36 : BitVec 32 := Scalar.minsi v35 c1024_i32_22
  let c1_i32_45 : BitVec 32 := 1#32
  let v55 : BitVec 32 := Scalar.subi v36 c1_i32_45
  let c4_i32_46 : BitVec 32 := 4#32
  let v56 : BitVec 32 := Scalar.shrui v55 c4_i32_46
  let c1_i32_47 : BitVec 32 := 1#32
  let v57 : BitVec 32 := Scalar.addi v56 c1_i32_47
  let v58 : BitVec 32 := Scalar.subi v57 v54
  let c1_i32_49 : BitVec 32 := 1#32
  let v60 : BitVec 32 := Scalar.divsi v58 c1_i32_49
  let v61 : BitVec 32 := Scalar.muli v60 c1_i32_49
  let v62 : BitVec 32 := Scalar.addi v54 v61
  let c1_i32_51 : BitVec 32 := 1#32
  let arg24 : BitVec 32 := Scf.iv v62 c1_i32_51 k0_t4
  let c16_i32_52 : BitVec 32 := 16#32
  let v63 : BitVec 32 := Scalar.muli arg24 c16_i32_52
  let c7_i32_53 : BitVec 32 := 7#32
  let v64 : BitVec 32 := Scalar.shrui v63 c7_i32_53
  let v134 : Index := Scalar.indexCast v64
  let c3_i32 : BitVec 32 := 3#32
  let v135 : Index := Scalar.indexCast c3_i32
  let c127_i32 : BitVec 32 := 127#32
  let v65 : BitVec 32 := Scalar.andi v63 c127_i32
  let v136 : Index := Scalar.indexCast v65
  ![v134.toNat, 3, v136.toNat]

def k0_chk1 (i : grid0.Coords) (v18 : BitVec 32) (v24 : BitVec 32) : Prop :=
  (∀ (k0_h1 : k0_cond1 i v18 v24 = 1#1), ∀ a, (k0_off4 i v18) a + S9x4x128.size a ≤ S256x4x128.size a) ∧
  (∀ (k0_h1 : k0_cond1 i v18 v24 = 1#1), (k0_t3_loop i v18 v24).OK) ∧
  (∀ k0_t3 : Fin (k0_t3_loop i v18 v24).trips, ∀ (k0_h1 : k0_cond1 i v18 v24 = 1#1), ∀ a, (k0_off38 i v18 v24 k0_t3) a + S1x1x16.size a ≤ S8x4x128.size a) ∧
  (∀ k0_t3 : Fin (k0_t3_loop i v18 v24).trips, ∀ (k0_h1 : k0_cond1 i v18 v24 = 1#1), ∀ a, (k0_off39 i v18 v24 k0_t3) a + S16.size a ≤ S1184.size a) ∧
  (∀ k0_t3 : Fin (k0_t3_loop i v18 v24).trips, ∀ (k0_h1 : k0_cond1 i v18 v24 = 1#1), ∀ a, (k0_off40 i v18 v24 k0_t3) a + S1x1x16.size a ≤ S8x4x128.size a) ∧
  (∀ k0_t3 : Fin (k0_t3_loop i v18 v24).trips, ∀ (k0_h1 : k0_cond1 i v18 v24 = 1#1), ∀ a, (k0_off41 i v18 v24 k0_t3) a + S1x1x16.size a ≤ S8x4x128.size a) ∧
  (∀ k0_t3 : Fin (k0_t3_loop i v18 v24).trips, ∀ (k0_h1 : k0_cond1 i v18 v24 = 1#1), ∀ a, (k0_off42 i v18 v24 k0_t3) a + S1x1x16.size a ≤ S8x4x128.size a) ∧
  (∀ (k0_h1 : k0_cond1 i v18 v24 = 1#1), (k0_t4_loop i v18 v24).OK) ∧
  (∀ k0_t4 : Fin (k0_t4_loop i v18 v24).trips, ∀ (k0_h1 : k0_cond1 i v18 v24 = 1#1), ∀ a, (k0_off43 i v18 v24 k0_t4) a + S1x1x16.size a ≤ S8x4x128.size a) ∧
  (∀ k0_t4 : Fin (k0_t4_loop i v18 v24).trips, ∀ (k0_h1 : k0_cond1 i v18 v24 = 1#1), ∀ a, (k0_off44 i v18 v24 k0_t4) a + S16.size a ≤ S1184.size a) ∧
  (∀ k0_t4 : Fin (k0_t4_loop i v18 v24).trips, ∀ (k0_h1 : k0_cond1 i v18 v24 = 1#1), ∀ a, (k0_off45 i v18 v24 k0_t4) a + S1x1x16.size a ≤ S8x4x128.size a) ∧
  (∀ k0_t4 : Fin (k0_t4_loop i v18 v24).trips, ∀ (k0_h1 : k0_cond1 i v18 v24 = 1#1), ∀ a, (k0_off46 i v18 v24 k0_t4) a + S1x1x16.size a ≤ S8x4x128.size a) ∧
  (∀ k0_t4 : Fin (k0_t4_loop i v18 v24).trips, ∀ (k0_h1 : k0_cond1 i v18 v24 = 1#1), ∀ a, (k0_off47 i v18 v24 k0_t4) a + S1x1x16.size a ≤ S8x4x128.size a)
theorem k0_off4_inb : ∀ (i : grid0.Coords) (v18 : BitVec 32) (v24 : BitVec 32) (k0_hw1 : k0_chk1 i v18 v24), ∀ (k0_h1 : k0_cond1 i v18 v24 = 1#1), ∀ a, (k0_off4 i v18) a + S9x4x128.size a ≤ S256x4x128.size a := fun i v18 v24 k0_hw1 k0_h1 => k0_hw1.1 k0_h1
theorem k0_t3_ok : ∀ (i : grid0.Coords) (v18 : BitVec 32) (v24 : BitVec 32) (k0_hw1 : k0_chk1 i v18 v24), ∀ (k0_h1 : k0_cond1 i v18 v24 = 1#1), (k0_t3_loop i v18 v24).OK := fun i v18 v24 k0_hw1 k0_h1 => k0_hw1.2.1 k0_h1
theorem k0_off38_inb : ∀ (i : grid0.Coords) (v18 : BitVec 32) (v24 : BitVec 32) (k0_hw1 : k0_chk1 i v18 v24) (k0_t3 : Fin (k0_t3_loop i v18 v24).trips), ∀ (k0_h1 : k0_cond1 i v18 v24 = 1#1), ∀ a, (k0_off38 i v18 v24 k0_t3) a + S1x1x16.size a ≤ S8x4x128.size a := fun i v18 v24 k0_hw1 k0_t3 k0_h1 => k0_hw1.2.2.1 k0_t3 k0_h1
theorem k0_off39_inb : ∀ (i : grid0.Coords) (v18 : BitVec 32) (v24 : BitVec 32) (k0_hw1 : k0_chk1 i v18 v24) (k0_t3 : Fin (k0_t3_loop i v18 v24).trips), ∀ (k0_h1 : k0_cond1 i v18 v24 = 1#1), ∀ a, (k0_off39 i v18 v24 k0_t3) a + S16.size a ≤ S1184.size a := fun i v18 v24 k0_hw1 k0_t3 k0_h1 => k0_hw1.2.2.2.1 k0_t3 k0_h1
theorem k0_off40_inb : ∀ (i : grid0.Coords) (v18 : BitVec 32) (v24 : BitVec 32) (k0_hw1 : k0_chk1 i v18 v24) (k0_t3 : Fin (k0_t3_loop i v18 v24).trips), ∀ (k0_h1 : k0_cond1 i v18 v24 = 1#1), ∀ a, (k0_off40 i v18 v24 k0_t3) a + S1x1x16.size a ≤ S8x4x128.size a := fun i v18 v24 k0_hw1 k0_t3 k0_h1 => k0_hw1.2.2.2.2.1 k0_t3 k0_h1
theorem k0_off41_inb : ∀ (i : grid0.Coords) (v18 : BitVec 32) (v24 : BitVec 32) (k0_hw1 : k0_chk1 i v18 v24) (k0_t3 : Fin (k0_t3_loop i v18 v24).trips), ∀ (k0_h1 : k0_cond1 i v18 v24 = 1#1), ∀ a, (k0_off41 i v18 v24 k0_t3) a + S1x1x16.size a ≤ S8x4x128.size a := fun i v18 v24 k0_hw1 k0_t3 k0_h1 => k0_hw1.2.2.2.2.2.1 k0_t3 k0_h1
theorem k0_off42_inb : ∀ (i : grid0.Coords) (v18 : BitVec 32) (v24 : BitVec 32) (k0_hw1 : k0_chk1 i v18 v24) (k0_t3 : Fin (k0_t3_loop i v18 v24).trips), ∀ (k0_h1 : k0_cond1 i v18 v24 = 1#1), ∀ a, (k0_off42 i v18 v24 k0_t3) a + S1x1x16.size a ≤ S8x4x128.size a := fun i v18 v24 k0_hw1 k0_t3 k0_h1 => k0_hw1.2.2.2.2.2.2.1 k0_t3 k0_h1
theorem k0_t4_ok : ∀ (i : grid0.Coords) (v18 : BitVec 32) (v24 : BitVec 32) (k0_hw1 : k0_chk1 i v18 v24), ∀ (k0_h1 : k0_cond1 i v18 v24 = 1#1), (k0_t4_loop i v18 v24).OK := fun i v18 v24 k0_hw1 k0_h1 => k0_hw1.2.2.2.2.2.2.2.1 k0_h1
theorem k0_off43_inb : ∀ (i : grid0.Coords) (v18 : BitVec 32) (v24 : BitVec 32) (k0_hw1 : k0_chk1 i v18 v24) (k0_t4 : Fin (k0_t4_loop i v18 v24).trips), ∀ (k0_h1 : k0_cond1 i v18 v24 = 1#1), ∀ a, (k0_off43 i v18 v24 k0_t4) a + S1x1x16.size a ≤ S8x4x128.size a := fun i v18 v24 k0_hw1 k0_t4 k0_h1 => k0_hw1.2.2.2.2.2.2.2.2.1 k0_t4 k0_h1
theorem k0_off44_inb : ∀ (i : grid0.Coords) (v18 : BitVec 32) (v24 : BitVec 32) (k0_hw1 : k0_chk1 i v18 v24) (k0_t4 : Fin (k0_t4_loop i v18 v24).trips), ∀ (k0_h1 : k0_cond1 i v18 v24 = 1#1), ∀ a, (k0_off44 i v18 v24 k0_t4) a + S16.size a ≤ S1184.size a := fun i v18 v24 k0_hw1 k0_t4 k0_h1 => k0_hw1.2.2.2.2.2.2.2.2.2.1 k0_t4 k0_h1
theorem k0_off45_inb : ∀ (i : grid0.Coords) (v18 : BitVec 32) (v24 : BitVec 32) (k0_hw1 : k0_chk1 i v18 v24) (k0_t4 : Fin (k0_t4_loop i v18 v24).trips), ∀ (k0_h1 : k0_cond1 i v18 v24 = 1#1), ∀ a, (k0_off45 i v18 v24 k0_t4) a + S1x1x16.size a ≤ S8x4x128.size a := fun i v18 v24 k0_hw1 k0_t4 k0_h1 => k0_hw1.2.2.2.2.2.2.2.2.2.2.1 k0_t4 k0_h1
theorem k0_off46_inb : ∀ (i : grid0.Coords) (v18 : BitVec 32) (v24 : BitVec 32) (k0_hw1 : k0_chk1 i v18 v24) (k0_t4 : Fin (k0_t4_loop i v18 v24).trips), ∀ (k0_h1 : k0_cond1 i v18 v24 = 1#1), ∀ a, (k0_off46 i v18 v24 k0_t4) a + S1x1x16.size a ≤ S8x4x128.size a := fun i v18 v24 k0_hw1 k0_t4 k0_h1 => k0_hw1.2.2.2.2.2.2.2.2.2.2.2.1 k0_t4 k0_h1
theorem k0_off47_inb : ∀ (i : grid0.Coords) (v18 : BitVec 32) (v24 : BitVec 32) (k0_hw1 : k0_chk1 i v18 v24) (k0_t4 : Fin (k0_t4_loop i v18 v24).trips), ∀ (k0_h1 : k0_cond1 i v18 v24 = 1#1), ∀ a, (k0_off47 i v18 v24 k0_t4) a + S1x1x16.size a ≤ S8x4x128.size a := fun i v18 v24 k0_hw1 k0_t4 k0_h1 => k0_hw1.2.2.2.2.2.2.2.2.2.2.2.2 k0_t4 k0_h1

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x4 : Shape := ⟨2, ![32768, 4]⟩
abbrev S17 : Shape := ⟨1, ![17]⟩
abbrev S16 : Shape := ⟨1, ![16]⟩
abbrev S1 : Shape := ⟨1, ![1]⟩
abbrev S15 : Shape := ⟨1, ![15]⟩
abbrev S_ : Shape := ⟨0, ![]⟩
abbrev S32768 : Shape := ⟨1, ![32768]⟩
abbrev S16x1 : Shape := ⟨2, ![16, 1]⟩
abbrev S32768x1 : Shape := ⟨2, ![32768, 1]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S32768x4, .f32⟩
  | .hbm, ⟨1, _⟩ => ⟨S17, .i32⟩
  | .hbm, ⟨2, _⟩ => ⟨S32768x4, .f32⟩
  | .hbm, ⟨3, _⟩ => ⟨S32768x4, .f32⟩
  | .hbm, ⟨4, _⟩ => ⟨S16, .i32⟩
  | .hbm, ⟨5, _⟩ => ⟨S16, .i32⟩
  | .hbm, ⟨6, _⟩ => ⟨S16, .i32⟩
  | .hbm, ⟨7, _⟩ => ⟨S16, .i32⟩
  | .hbm, ⟨8, _⟩ => ⟨S1, .i32⟩
  | .hbm, ⟨9, _⟩ => ⟨S15, .i32⟩
  | .hbm, ⟨10, _⟩ => ⟨S16, .i32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S16, .i32⟩
  | .hbm, ⟨15, _⟩ => ⟨S_, .i32⟩
  | .hbm, ⟨16, _⟩ => ⟨S_, .i32⟩
  | .hbm, ⟨17, _⟩ => ⟨S16, .i32⟩
  | .hbm, ⟨18, _⟩ => ⟨S_, .i32⟩
  | .hbm, ⟨19, _⟩ => ⟨S32768, .i32⟩
  | .hbm, ⟨20, _⟩ => ⟨S_, .i32⟩
  | .hbm, ⟨21, _⟩ => ⟨S16, .i32⟩
  | .hbm, ⟨22, _⟩ => ⟨S16, .i1⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S16, .i32⟩
  | .hbm, ⟨27, _⟩ => ⟨S16x1, .i32⟩
  | .hbm, ⟨28, _⟩ => ⟨S_, .i32⟩
  | .hbm, ⟨29, _⟩ => ⟨S16, .i32⟩
  | .hbm, ⟨30, _⟩ => ⟨S32768, .i32⟩
  | .hbm, ⟨31, _⟩ => ⟨S_, .i32⟩
  | .hbm, ⟨32, _⟩ => ⟨S_, .i32⟩
  | .hbm, ⟨33, _⟩ => ⟨S32768, .i32⟩
  | .hbm, ⟨34, _⟩ => ⟨S_, .i32⟩
  | .hbm, ⟨35, _⟩ => ⟨S32768, .i32⟩
  | .hbm, ⟨36, _⟩ => ⟨S32768, .i32⟩
  | .hbm, ⟨37, _⟩ => ⟨S_, .i32⟩
  | .hbm, ⟨38, _⟩ => ⟨S32768, .i32⟩
  | .hbm, ⟨39, _⟩ => ⟨S32768, .i1⟩
  | .hbm, ⟨40, _⟩ => ⟨S_, .i32⟩
  | .hbm, ⟨41, _⟩ => ⟨S32768, .i32⟩
  | .hbm, ⟨42, _⟩ => ⟨S32768, .i32⟩
  | .hbm, ⟨43, _⟩ => ⟨S32768, .i32⟩
  | .hbm, ⟨44, _⟩ => ⟨S32768x1, .i32⟩
  | .hbm, ⟨45, _⟩ => ⟨S1, .i32⟩
  | .hbm, ⟨46, _⟩ => ⟨S_, .i32⟩
  | .hbm, ⟨47, _⟩ => ⟨S32768x1, .i32⟩
  | .hbm, ⟨48, _⟩ => ⟨S32768x1, .i1⟩
  | .hbm, ⟨49, _⟩ => ⟨S1x1, .i32⟩
  | .hbm, ⟨50, _⟩ => ⟨S32768x1, .i32⟩
  | .hbm, ⟨51, _⟩ => ⟨S32768x1, .i1⟩
  | .hbm, ⟨52, _⟩ => ⟨S32768x1, .i1⟩
  | .hbm, ⟨53, _⟩ => ⟨S_, .i1⟩
  | .hbm, ⟨54, _⟩ => ⟨S32768, .i1⟩
  | .hbm, ⟨55, _⟩ => ⟨S32768, .i32⟩
  | .hbm, ⟨56, _⟩ => ⟨S_, .i32⟩
  | .hbm, ⟨57, _⟩ => ⟨S32768, .i32⟩
  | .hbm, ⟨58, _⟩ => ⟨S32768, .i32⟩
  | .hbm, ⟨59, _⟩ => ⟨S32768, .i32⟩
  | .hbm, ⟨60, _⟩ => ⟨S32768, .i32⟩
  | .hbm, ⟨61, _⟩ => ⟨S_, .i32⟩
  | .hbm, ⟨62, _⟩ => ⟨S32768, .i32⟩
  | .hbm, ⟨63, _⟩ => ⟨S32768, .i1⟩
  | .hbm, ⟨64, _⟩ => ⟨S_, .i32⟩
  | .hbm, ⟨65, _⟩ => ⟨S32768, .i32⟩
  | .hbm, ⟨66, _⟩ => ⟨S32768, .i32⟩
  | .hbm, ⟨67, _⟩ => ⟨S32768, .i32⟩
  | .hbm, ⟨68, _⟩ => ⟨S32768x1, .i32⟩
  | .hbm, ⟨69, _⟩ => ⟨S1, .i32⟩
  | .hbm, ⟨70, _⟩ => ⟨S_, .i32⟩
  | .hbm, ⟨71, _⟩ => ⟨S32768x1, .i32⟩
  | .hbm, ⟨72, _⟩ => ⟨S32768x1, .i1⟩
  | .hbm, ⟨73, _⟩ => ⟨S1x1, .i32⟩
  | .hbm, ⟨74, _⟩ => ⟨S32768x1, .i32⟩
  | .hbm, ⟨75, _⟩ => ⟨S32768x1, .i1⟩
  | .hbm, ⟨76, _⟩ => ⟨S32768x1, .i1⟩
  | .hbm, ⟨77, _⟩ => ⟨S_, .i1⟩
  | .hbm, ⟨78, _⟩ => ⟨S32768, .i1⟩
  | .hbm, ⟨79, _⟩ => ⟨S32768x4, .f32⟩
  | .hbm, ⟨80, _⟩ => ⟨S32768x4, .i1⟩
  | .hbm, ⟨81, _⟩ => ⟨S_, .f32⟩
  | .hbm, ⟨82, _⟩ => ⟨S32768x4, .f32⟩
  | .hbm, ⟨83, _⟩ => ⟨S32768x4, .f32⟩
  | .hbm, ⟨84, _⟩ => ⟨S32768x4, .f32⟩
  | .hbm, ⟨85, _⟩ => ⟨S_, .i32⟩
  | .hbm, ⟨86, _⟩ => ⟨S32768, .i32⟩
  | .hbm, ⟨87, _⟩ => ⟨S32768, .i1⟩
  | .hbm, ⟨88, _⟩ => ⟨S_, .i32⟩
  | .hbm, ⟨89, _⟩ => ⟨S32768, .i32⟩
  | .hbm, ⟨90, _⟩ => ⟨S32768, .i32⟩
  | .hbm, ⟨91, _⟩ => ⟨S32768, .i32⟩
  | .hbm, ⟨92, _⟩ => ⟨S32768x1, .i32⟩
  | .hbm, ⟨93, _⟩ => ⟨S1, .i32⟩
  | .hbm, ⟨94, _⟩ => ⟨S_, .i32⟩
  | .hbm, ⟨95, _⟩ => ⟨S32768x1, .i32⟩
  | .hbm, ⟨96, _⟩ => ⟨S32768x1, .i1⟩
  | .hbm, ⟨97, _⟩ => ⟨S1x1, .i32⟩
  | .hbm, ⟨98, _⟩ => ⟨S32768x1, .i32⟩
  | .hbm, ⟨99, _⟩ => ⟨S32768x1, .i1⟩
  | .hbm, ⟨100, _⟩ => ⟨S32768x1, .i1⟩
  | .hbm, ⟨101, _⟩ => ⟨S_, .i1⟩
  | .hbm, ⟨102, _⟩ => ⟨S32768, .i1⟩
  | .hbm, ⟨103, _⟩ => ⟨S32768x4, .f32⟩
  | .hbm, ⟨104, _⟩ => ⟨S32768x4, .i1⟩
  | .hbm, ⟨105, _⟩ => ⟨S_, .f32⟩
  | .hbm, ⟨106, _⟩ => ⟨S32768x4, .f32⟩
  | .hbm, ⟨107, _⟩ => ⟨S32768x4, .f32⟩
  | .hbm, ⟨108, _⟩ => ⟨S32768x4, .f32⟩
  | _, _ => ⟨S32768x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_call1_v0 : Ref sig .tc := ⟨.hbm, 8, rfl⟩
abbrev main_call1_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_call2_call0_c : Ref sig .tc := ⟨.hbm, 15, rfl⟩
abbrev main_call2_call0_v0 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_call3_call0_c : Ref sig .tc := ⟨.hbm, 31, rfl⟩
abbrev main_call3_call0_v0 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_call4_c : Ref sig .tc := ⟨.hbm, 37, rfl⟩
abbrev main_call4_v0 : Ref sig .tc := ⟨.hbm, 38, rfl⟩
abbrev main_call4_v1 : Ref sig .tc := ⟨.hbm, 39, rfl⟩
abbrev main_call4_c_0 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_call4_v5 : Ref sig .tc := ⟨.hbm, 44, rfl⟩
abbrev main_call4_c_1 : Ref sig .tc := ⟨.hbm, 45, rfl⟩
abbrev main_call4_c_2 : Ref sig .tc := ⟨.hbm, 46, rfl⟩
abbrev main_call4_v6 : Ref sig .tc := ⟨.hbm, 47, rfl⟩
abbrev main_call4_v7 : Ref sig .tc := ⟨.hbm, 48, rfl⟩
abbrev main_call4_v8 : Ref sig .tc := ⟨.hbm, 49, rfl⟩
abbrev main_call4_v9 : Ref sig .tc := ⟨.hbm, 50, rfl⟩
abbrev main_call4_v10 : Ref sig .tc := ⟨.hbm, 51, rfl⟩
abbrev main_call4_v11 : Ref sig .tc := ⟨.hbm, 52, rfl⟩
abbrev main_call4_c_3 : Ref sig .tc := ⟨.hbm, 53, rfl⟩
abbrev main_call4_v12 : Ref sig .tc := ⟨.hbm, 54, rfl⟩
abbrev main_call4_v13 : Ref sig .tc := ⟨.hbm, 55, rfl⟩
abbrev main_call4_c_4 : Ref sig .tc := ⟨.hbm, 56, rfl⟩
abbrev main_call4_v14 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_call5_c : Ref sig .tc := ⟨.hbm, 61, rfl⟩
abbrev main_call5_v0 : Ref sig .tc := ⟨.hbm, 62, rfl⟩
abbrev main_call5_v1 : Ref sig .tc := ⟨.hbm, 63, rfl⟩
abbrev main_call5_c_0 : Ref sig .tc := ⟨.hbm, 64, rfl⟩
abbrev main_call5_v2 : Ref sig .tc := ⟨.hbm, 65, rfl⟩
abbrev main_call5_v3 : Ref sig .tc := ⟨.hbm, 66, rfl⟩
abbrev main_call5_v4 : Ref sig .tc := ⟨.hbm, 67, rfl⟩
abbrev main_call5_v5 : Ref sig .tc := ⟨.hbm, 68, rfl⟩
abbrev main_call5_c_1 : Ref sig .tc := ⟨.hbm, 69, rfl⟩
abbrev main_call5_c_2 : Ref sig .tc := ⟨.hbm, 70, rfl⟩
abbrev main_call5_v6 : Ref sig .tc := ⟨.hbm, 71, rfl⟩
abbrev main_call5_v7 : Ref sig .tc := ⟨.hbm, 72, rfl⟩
abbrev main_call5_v8 : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_c_3 : Ref sig .tc := ⟨.hbm, 77, rfl⟩
abbrev main_call5_v12 : Ref sig .tc := ⟨.hbm, 78, rfl⟩
abbrev main_call5_v13 : Ref sig .tc := ⟨.hbm, 79, rfl⟩
abbrev main_call5_v14 : Ref sig .tc := ⟨.hbm, 80, rfl⟩
abbrev main_call5_cst : Ref sig .tc := ⟨.hbm, 81, rfl⟩
abbrev main_call5_v15 : Ref sig .tc := ⟨.hbm, 82, rfl⟩
abbrev main_v21 : Ref sig .tc := ⟨.hbm, 83, rfl⟩
abbrev main_v22 : Ref sig .tc := ⟨.hbm, 84, rfl⟩
abbrev main_call6_c : Ref sig .tc := ⟨.hbm, 85, rfl⟩
abbrev main_call6_v0 : Ref sig .tc := ⟨.hbm, 86, rfl⟩
abbrev main_call6_v1 : Ref sig .tc := ⟨.hbm, 87, rfl⟩
abbrev main_call6_c_0 : Ref sig .tc := ⟨.hbm, 88, rfl⟩
abbrev main_call6_v2 : Ref sig .tc := ⟨.hbm, 89, rfl⟩
abbrev main_call6_v3 : Ref sig .tc := ⟨.hbm, 90, rfl⟩
abbrev main_call6_v4 : Ref sig .tc := ⟨.hbm, 91, rfl⟩
abbrev main_call6_v5 : Ref sig .tc := ⟨.hbm, 92, rfl⟩
abbrev main_call6_c_1 : Ref sig .tc := ⟨.hbm, 93, rfl⟩
abbrev main_call6_c_2 : Ref sig .tc := ⟨.hbm, 94, rfl⟩
abbrev main_call6_v6 : Ref sig .tc := ⟨.hbm, 95, rfl⟩
abbrev main_call6_v7 : Ref sig .tc := ⟨.hbm, 96, rfl⟩
abbrev main_call6_v8 : Ref sig .tc := ⟨.hbm, 97, rfl⟩
abbrev main_call6_v9 : Ref sig .tc := ⟨.hbm, 98, rfl⟩
abbrev main_call6_v10 : Ref sig .tc := ⟨.hbm, 99, rfl⟩
abbrev main_call6_v11 : Ref sig .tc := ⟨.hbm, 100, rfl⟩
abbrev main_call6_c_3 : Ref sig .tc := ⟨.hbm, 101, rfl⟩
abbrev main_call6_v12 : Ref sig .tc := ⟨.hbm, 102, rfl⟩
abbrev main_call6_v13 : Ref sig .tc := ⟨.hbm, 103, rfl⟩
abbrev main_call6_v14 : Ref sig .tc := ⟨.hbm, 104, rfl⟩
abbrev main_call6_cst : Ref sig .tc := ⟨.hbm, 105, rfl⟩
abbrev main_call6_v15 : Ref sig .tc := ⟨.hbm, 106, rfl⟩
abbrev main_v23 : Ref sig .tc := ⟨.hbm, 107, rfl⟩
abbrev main_v24 : Ref sig .tc := ⟨.hbm, 108, rfl⟩

abbrev nD : Nat := 1
abbrev τ : Topo := Topo.v7x

variable {F : FTy → Type} [FloatOps F]
-- ==== Proof.Base.lean ====
/-
  The kernel's program as the SparseCore launch theorem reads it, and the buffers a tile works on.

  The names here are shared by every module of the proof: the launch configuration `K`, the definitions table `D`, the
  ghost state (the handshakes' rounds beside the transfers' counters), the five arrays in main memory and a tile's scratch.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program's loops and calls. -/
abbrev ΛP : Labels := Pipeline.Sig Λ₀ (Fin 0) fun p => (pcfgs (F := F) p).Adm
/-- The SparseCore configuration: one vector call. -/
abbrev K : SparseCore.Cfg τ sig (ΛP (F := F)) 1 := sc (F := F)
/-- The call runs on sixteen vector subcores of each SparseCore. -/
theorem nSub_zero : (K (F := F)).nSub 0 = 16 := rfl
/-- The call runs on two SparseCores. -/
theorem nCore_zero : (K (F := F)).nCore 0 = 2 := rfl
/-- The definitions the threads run. -/
abbrev D [FloatOps F] : Defs nD τ sig (Elt F) (ΛP (F := F)) := Pipeline.defs pcfgs defs₀
/-- The kernel's own loops need no variants. -/
abbrev 𝒱₀ : Variants := Variants.none
/-- The variants of the whole program. -/
abbrev 𝒱 : Variants := 𝒱₀.lift
/-- The variant at the launch. -/
abbrev v₀ : 𝒱.V := Sum.inl none

/-- What the launch theorem asks of the configuration's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds. -/
abbrev UH : Type := URounds (GSem nD τ sig) ℕ
/-- The handshakes' rounds beside the transfers' counters. -/
abbrev UU : Type := UH × Counters
/-- The resource algebra of the whole proof. -/
abbrev MM (F : FTy → Type) := MT nD τ sig (HIx 1) (Elt F) ℕ UU ℕ
/-- The handshakes' rounds, the left factor. -/
abbrev EH : Emb UH (MM F) := embL

/-! ## A tile -/

/-- The SparseCore of a grid point. -/
abbrev cV (L : grid0.Coords) : Fin τ.nSC := (L 0).castLE hcore0
/-- The vector subcore of a grid point. -/
abbrev jV (L : grid0.Coords) : Fin τ.nSub := (L 1).castLE hsub0
/-- The thread of a grid point on device `d`. -/
abbrev VT (d : Dev nD) (L : grid0.Coords) : Thread nD τ := V d (cV L) (jV L)

-- the kernel's memrefs, spelt as the body table passes them
/-- The tokens' values in main memory. -/
abbrev xM : Memref sig .scVector .hbm S256x4x128 .f32 := Memref.whole main_v1_scv
/-- The segment boundaries in main memory. -/
abbrev pM : Memref sig .scVector .hbm S17 .i32 := Memref.whole main_arg1_scv
/-- The table of means in main memory. -/
abbrev mM : Memref sig .scVector .hbm S256x4x128 .f32 := Memref.whole main_v3_scv
/-- The table of deviations in main memory. -/
abbrev sM : Memref sig .scVector .hbm S256x4x128 .f32 := Memref.whole main_v5_scv
/-- The result in main memory. -/
abbrev oM : Memref sig .scVector .hbm S256x4x128 .f32 := Memref.whole main_v6_scv
/-- A tile's copy of the segment boundaries. -/
abbrev pB : Memref sig .scVector .vmem S33 .i32 := Memref.whole cc0_scratch0
/-- A tile's tokens. -/
abbrev xB : Memref sig .scVector .vmem S8x4x128 .f32 := Memref.whole cc0_scratch1
/-- A tile's nine rows of means. -/
abbrev mB : Memref sig .scVector .vmem S9x4x128 .f32 := Memref.whole cc0_scratch2
/-- A tile's nine rows of deviations. -/
abbrev sB : Memref sig .scVector .vmem S9x4x128 .f32 := Memref.whole cc0_scratch3
/-- The means of channel 0, flat. -/
abbrev m0 : Memref sig .scVector .vmem S1184 .f32 := Memref.whole cc0_scratch4
/-- The means of channel 1, flat. -/
abbrev m1 : Memref sig .scVector .vmem S1184 .f32 := Memref.whole cc0_scratch5
/-- The means of channel 2, flat. -/
abbrev m2 : Memref sig .scVector .vmem S1184 .f32 := Memref.whole cc0_scratch6
/-- The means of channel 3, flat. -/
abbrev m3 : Memref sig .scVector .vmem S1184 .f32 := Memref.whole cc0_scratch7
/-- The deviations of channel 0, flat. -/
abbrev s0 : Memref sig .scVector .vmem S1184 .f32 := Memref.whole cc0_scratch8
/-- The deviations of channel 1, flat. -/
abbrev s1 : Memref sig .scVector .vmem S1184 .f32 := Memref.whole cc0_scratch9
/-- The deviations of channel 2, flat. -/
abbrev s2 : Memref sig .scVector .vmem S1184 .f32 := Memref.whole cc0_scratch10
/-- The deviations of channel 3, flat. -/
abbrev s3 : Memref sig .scVector .vmem S1184 .f32 := Memref.whole cc0_scratch11

end Cert.Proof

end
-- ==== Proof.Rearrange.lean ====
/-
  The rearranging loop of a tile: nine rows of a table, [9, 4, 128], are laid out flat, one buffer per channel.

  A trip copies one row: eight pieces of sixteen elements into each channel's buffer, for the means and for the
  deviations. After `n` trips position `16 + 128 r + l` of channel `j`'s buffer holds element `(r, j, l)` for every `r < n`.
-/
module

public import proofs.«01_k».proof.Proof.Base
public import Idealize.ShloMosaic.Lib.PointwiseCore
public import Idealize.ShloMosaic.Lib.Pointwise.Index

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-! ## What a flat buffer holds -/

/-- Position `16 + 128 r + l` of a flat buffer. -/
def flatIx (r : Fin 9) (l : Fin 128) : S1184.Idx := ix1 ⟨128 * r.val + l.val + 16, by omega⟩

/-- The flat buffer holds the first `n` rows of channel `j` of the table `src`. -/
def Flat {κ : Kind} {sp : Space} (v : View sig κ sp S1184 .f32) (g : v.ty.Contents (Elt F)) (src : S9x4x128.Idx → F .f32)
    (j : Fin 4) (n : ℕ) : Prop :=
  ∀ (r : Fin 9) (l : Fin 128), r.val < n → v.read (Elt F) g (flatIx r l) = src (ix3 r j l)

/-- No row is held before the first trip. -/
theorem Flat.zero {κ : Kind} {sp : Space} (v : View sig κ sp S1184 .f32) (g : v.ty.Contents (Elt F)) (src : S9x4x128.Idx → F .f32)
    (j : Fin 4) : Flat v g src j 0 := fun _ _ h => absurd h (Nat.not_lt_zero _)

/-- A load of sixteen elements of row `k`, channel `j`, from lane `16 c` on, cast to a vector twice: element `x` is the
    table's at lane `16 c + x`. -/
theorem flat_load {κ : Kind} {sp : Space} (v : View sig κ sp S9x4x128 .f32) (f : v.ty.Contents (Elt F)) (off : Fin 3 → ℕ)
    (h : ∀ a, off a + S1x1x16.size a ≤ S9x4x128.size a) (k : Fin 9) (j : Fin 4) (c : Fin 8) (ho : off = ![k.val, j.val, 16 * c.val])
    (x : S16.Idx) (h1 : S1x1x16.ShapeCasts S16) (h2 : S16.ShapeCasts S16) :
    shapeCast S16 (shapeCast S16 (v.readAt (Elt F) (Rect.unit (s := S9x4x128) off S1x1x16.size h).toLoadRect f) h1) h2 x
      = v.read (Elt F) f (ix3 k j ⟨16 * c.val + (x 0).val, by have : (x 0).val < 16 := (x 0).isLt; omega⟩) := by
  subst ho
  rw [shapeCast_apply _ h2 x x rfl,
    shapeCast_apply _ h1 x (ix3 (n0 := 1) (n1 := 1) (n2 := 16) 0 0 (x 0)) (by
      rw [Shape.rowMajor_val_three, Shape.rowMajor_val_one]; simp)]
  rw [View.readAt_apply]
  congr 1
  funext a
  apply Fin.ext
  match a with
  | ⟨0, _⟩ => simp [LoadRect.idx]
  | ⟨1, _⟩ => simp [LoadRect.idx]
  | ⟨2, _⟩ => simp [LoadRect.idx]

/-- One trip lays out row `k`: eight pieces that hold the row's lanes, sixteen at a time. -/
theorem Flat.trip {κ : Kind} {sp : Space} (v : View sig κ sp S1184 .f32) (f : v.ty.Contents (Elt F)) (src : S9x4x128.Idx → F .f32)
    (j : Fin 4) (k : Fin k0_t2_loop.trips) (w7 w6 w5 w4 w3 w2 w1 w0 : S16.Idx → F .f32)
    (h : ∀ c : Fin 8, ∀ x, ![w0, w1, w2, w3, w4, w5, w6, w7] c x
      = src (ix3 (n0 := 9) k j ⟨16 * c.val + (x 0).val, by have : (x 0).val < 16 := (x 0).isLt; omega⟩))
    (hf : Flat v f src j k.val) :
    Flat v (v.writes (Elt F) f
      [⟨Rect.unit (s := S1184) (k0_off6 k 112#32) S16.size (k0_off6_inb k 7), w7⟩,
       ⟨Rect.unit (s := S1184) (k0_off6 k 96#32) S16.size (k0_off6_inb k 6), w6⟩,
       ⟨Rect.unit (s := S1184) (k0_off6 k 80#32) S16.size (k0_off6_inb k 5), w5⟩,
       ⟨Rect.unit (s := S1184) (k0_off6 k 64#32) S16.size (k0_off6_inb k 4), w4⟩,
       ⟨Rect.unit (s := S1184) (k0_off6 k 48#32) S16.size (k0_off6_inb k 3), w3⟩,
       ⟨Rect.unit (s := S1184) (k0_off6 k 32#32) S16.size (k0_off6_inb k 2), w2⟩,
       ⟨Rect.unit (s := S1184) (k0_off6 k 16#32) S16.size (k0_off6_inb k 1), w1⟩,
       ⟨Rect.unit (s := S1184) (k0_off6 k 0#32) S16.size (k0_off6_inb k 0), w0⟩]) src j (k.val + 1) := by
  have hk : k.val < 9 := lt_of_lt_of_eq k.isLt (by decide)
  have ho : ∀ c : Fin 8, k0_off6 k (BitVec.ofNat 32 (16 * c.val)) 0 = 128 * k.val + 16 * c.val + 16 := fun c => by
    rw [k0_off6_eq k c]; rfl
  intro r l hr
  have hl : l.val < 128 := l.isLt
  rcases Nat.lt_or_ge r.val k.val with hlt | hge
  · rw [View.read_writes_apply_of_forall_not_mem, hf r l hlt]
    intro p hp
    have key : ∀ c : Fin 8, flatIx r l ∉ (Rect.unit (s := S1184) (k0_off6 k (BitVec.ofNat 32 (16 * c.val))) S16.size (k0_off6_inb k c)).set :=
      fun c => Rect.not_mem_set_of_axis _ _ 0 _ 16 (ho c) rfl rfl (.inl (by
        show 128 * r.val + l.val + 16 < _
        omega))
    simp only [List.mem_cons, List.not_mem_nil, _root_.or_false] at hp
    rcases hp with rfl | rfl | rfl | rfl | rfl | rfl | rfl | rfl
    · exact key 7
    · exact key 6
    · exact key 5
    · exact key 4
    · exact key 3
    · exact key 2
    · exact key 1
    · exact key 0
  · have hrk : r.val = k.val := by omega
    set G : S1184.Idx → F .f32 := fun y =>
      if hy : 128 * k.val + 16 ≤ (y 0).val ∧ (y 0).val < 128 * k.val + 144 then
        src (ix3 (n0 := 9) k j ⟨(y 0).val - (128 * k.val + 16), by omega⟩) else w0 (ix1 (n0 := 16) 0) with hG
    have key : ∀ (c : Fin 8) (x : S16.Idx), ![w0, w1, w2, w3, w4, w5, w6, w7] c x
        = G ((Rect.unit (s := S1184) (k0_off6 k (BitVec.ofNat 32 (16 * c.val))) S16.size (k0_off6_inb k c)).emb x) := by
      intro c x
      have hx : (x 0).val < 16 := (x 0).isLt
      have hv : (((Rect.unit (s := S1184) (k0_off6 k (BitVec.ofNat 32 (16 * c.val))) S16.size (k0_off6_inb k c)).emb x) 0).val
          = 128 * k.val + 16 * c.val + 16 + 1 * (x 0).val := by
        rw [← ho c]; rfl
      rw [h c x, hG]
      dsimp only
      rw [dif_pos (by rw [hv]; omega)]
      congr 2
      apply Fin.ext
      show 16 * c.val + (x 0).val = (((Rect.unit (s := S1184) (k0_off6 k (BitVec.ofNat 32 (16 * c.val))) S16.size (k0_off6_inb k c)).emb x) 0).val - (128 * k.val + 16)
      omega
    have hc : l.val / 16 < 8 := by omega
    rw [View.read_writes_apply_of_pieces v _ G]
    · rw [hG]
      dsimp only
      have e : ((flatIx r l) 0).val = 128 * r.val + l.val + 16 := rfl
      rw [dif_pos (by rw [e]; omega)]
      have e1 : (⟨k.val, hk⟩ : Fin 9) = r := Fin.ext hrk.symm
      show src (ix3 (n0 := 9) ⟨k.val, hk⟩ j _) = _
      rw [e1]
      congr 2
      apply Fin.ext
      show ((flatIx r l) 0).val - _ = _
      rw [e]; omega
    · intro p hp
      simp only [List.mem_cons, List.not_mem_nil, _root_.or_false] at hp
      rcases hp with rfl | rfl | rfl | rfl | rfl | rfl | rfl | rfl
      · exact key 7
      · exact key 6
      · exact key 5
      · exact key 4
      · exact key 3
      · exact key 2
      · exact key 1
      · exact key 0
    · have mem : flatIx r l ∈ (Rect.unit (s := S1184) (k0_off6 k (BitVec.ofNat 32 (16 * (⟨l.val / 16, hc⟩ : Fin 8).val))) S16.size (k0_off6_inb k ⟨l.val / 16, hc⟩)).set := by
        refine (LoadRect.mem_set _).mpr fun a => ?_
        refine ⟨l.val % 16, by show _ < S16.size a; fin_cases a; show _ < 16; omega, ?_⟩
        obtain rfl : a = 0 := Subsingleton.elim _ _
        show 128 * r.val + l.val + 16 = k0_off6 k _ 0 + 1 * _
        rw [ho]
        show _ = 128 * k.val + 16 * (l.val / 16) + 16 + _
        omega
      revert mem
      generalize (⟨l.val / 16, hc⟩ : Fin 8) = c
      intro mem
      fin_cases c
      · exact ⟨_, .tail _ (.tail _ (.tail _ (.tail _ (.tail _ (.tail _ (.tail _ (.head _))))))), mem⟩
      · exact ⟨_, .tail _ (.tail _ (.tail _ (.tail _ (.tail _ (.tail _ (.head _)))))), mem⟩
      · exact ⟨_, .tail _ (.tail _ (.tail _ (.tail _ (.tail _ (.head _))))), mem⟩
      · exact ⟨_, .tail _ (.tail _ (.tail _ (.tail _ (.head _)))), mem⟩
      · exact ⟨_, .tail _ (.tail _ (.tail _ (.head _))), mem⟩
      · exact ⟨_, .tail _ (.tail _ (.head _)), mem⟩
      · exact ⟨_, .tail _ (.head _), mem⟩
      · exact ⟨_, .head _, mem⟩

/-! ## A trip of the loop -/

section Trip

variable [FloatOps F]

local notation "𝕄" => MT nD τ sig (HIx 1) (Elt F) ℕ UU ℕ

/-- A tile's eight flat buffers, holding the first `n` rows of the means `a` and of the deviations `b`. -/
def flatBufs (d : Dev nD) (L : grid0.Coords) (a b : S9x4x128.Idx → F .f32) (n : ℕ) : sProp 𝕄 :=
  iprop(∃ f0 : Buf (Elt F) (m0.view.loc (VT d L)), ∃ f1 : Buf (Elt F) (m1.view.loc (VT d L)),
    ∃ f2 : Buf (Elt F) (m2.view.loc (VT d L)), ∃ f3 : Buf (Elt F) (m3.view.loc (VT d L)),
    ∃ g0 : Buf (Elt F) (s0.view.loc (VT d L)), ∃ g1 : Buf (Elt F) (s1.view.loc (VT d L)),
    ∃ g2 : Buf (Elt F) (s2.view.loc (VT d L)), ∃ g3 : Buf (Elt F) (s3.view.loc (VT d L)),
    ⌜(Flat m0.view f0 a 0 n ∧ Flat m1.view f1 a 1 n ∧ Flat m2.view f2 a 2 n ∧ Flat m3.view f3 a 3 n)
      ∧ (Flat s0.view g0 b 0 n ∧ Flat s1.view g1 b 1 n ∧ Flat s2.view g2 b 2 n ∧ Flat s3.view g3 b 3 n)⌝
    ∗ (m0.view.loc (VT d L) ↦{fullShare} f0) ∗ (m1.view.loc (VT d L) ↦{fullShare} f1)
    ∗ (m2.view.loc (VT d L) ↦{fullShare} f2) ∗ (m3.view.loc (VT d L) ↦{fullShare} f3)
    ∗ (s0.view.loc (VT d L) ↦{fullShare} g0) ∗ (s1.view.loc (VT d L) ↦{fullShare} g1)
    ∗ (s2.view.loc (VT d L) ↦{fullShare} g2) ∗ (s3.view.loc (VT d L) ↦{fullShare} g3))

variable (d : Dev nD) (L : grid0.Coords)

set_option maxHeartbeats 2000000 in
/-- One trip of the rearranging loop lays out one more row in all eight buffers. -/
theorem t2_trip (v2 v18 v24 : BitVec 32) (hw : k0_chk1 L v18 v24) (h1 : k0_cond1 L v18 v24 = 1#1) (k : Fin k0_t2_loop.trips)
    (fm : Buf (Elt F) (mB.view.loc (VT d L))) (fs : Buf (Elt F) (sB.view.loc (VT d L))) :
    (iprop((mB.view.loc (VT d L) ↦{fullShare} fm) ∗ (sB.view.loc (VT d L) ↦{fullShare} fs)
      ∗ flatBufs d L (mB.view.read (Elt F) fm) (sB.view.read (Elt F) fs) k.val) : sProp 𝕄)
    ⊢ wp frame (wpE (defs₀ (F := F)) 𝒱₀ (VT d L) none) Set.univ
        (k0_t2_body L xM (Memref.isWhole_whole _) pM (Memref.isWhole_whole _) mM (Memref.isWhole_whole _) sM (Memref.isWhole_whole _)
          oM (Memref.isWhole_whole _) pB (Memref.isWhole_whole _) xB (Memref.isWhole_whole _) mB (Memref.isWhole_whole _)
          sB (Memref.isWhole_whole _) m0 (Memref.isWhole_whole _) m1 (Memref.isWhole_whole _) m2 (Memref.isWhole_whole _)
          m3 (Memref.isWhole_whole _) s0 (Memref.isWhole_whole _) s1 (Memref.isWhole_whole _) s2 (Memref.isWhole_whole _)
          s3 (Memref.isWhole_whole _) cc0_scratch12 cc0_scratch13 cc0_scratch14 cc0_scratch15 cc0_scoped0 v2 v18 v24 hw h1 k ())
        fun _ => iprop((mB.view.loc (VT d L) ↦{fullShare} fm) ∗ (sB.view.loc (VT d L) ↦{fullShare} fs)
          ∗ flatBufs d L (mB.view.read (Elt F) fm) (sB.view.read (Elt F) fs) (k.val + 1)) := by
  unfold flatBufs
  iintro ⟨HM, HS, ⟨%f0, %f1, %f2, %f3, %g0, %g1, %g2, %g3, %hf, H0, H1, H2, H3, G0, G1, G2, G3⟩⟩
  obtain ⟨⟨ha0, ha1, ha2, ha3⟩, ⟨hb0, hb1, hb2, hb3⟩⟩ := hf
  unfold k0_t2_body
  sl_exec
  sl_step
  iframe HM; iframe HS
  iexists _; iexists _; iexists _; iexists _; iexists _; iexists _; iexists _; iexists _
  iframe H0; iframe H1; iframe H2; iframe H3; iframe G0; iframe G1; iframe G2; iframe G3
  ipureintro
  refine ⟨⟨?_, ?_, ?_, ?_⟩, ⟨?_, ?_, ?_, ?_⟩⟩
  · refine Flat.trip _ _ _ _ _ _ _ _ _ _ _ _ _ (fun c x => ?_) ha0
    fin_cases c
    exacts [flat_load mB.view fm _ _ k 0 0 (k0_off5_eq k) x _ _, flat_load mB.view fm _ _ k 0 1 (k0_off7_eq k) x _ _, flat_load mB.view fm _ _ k 0 2 (k0_off8_eq k) x _ _,
      flat_load mB.view fm _ _ k 0 3 (k0_off9_eq k) x _ _, flat_load mB.view fm _ _ k 0 4 (k0_off10_eq k) x _ _, flat_load mB.view fm _ _ k 0 5 (k0_off11_eq k) x _ _,
      flat_load mB.view fm _ _ k 0 6 (k0_off12_eq k) x _ _, flat_load mB.view fm _ _ k 0 7 (k0_off13_eq k) x _ _]
  · refine Flat.trip _ _ _ _ _ _ _ _ _ _ _ _ _ (fun c x => ?_) ha1
    fin_cases c
    exacts [flat_load mB.view fm _ _ k 1 0 (k0_off14_eq k) x _ _, flat_load mB.view fm _ _ k 1 1 (k0_off15_eq k) x _ _, flat_load mB.view fm _ _ k 1 2 (k0_off16_eq k) x _ _,
      flat_load mB.view fm _ _ k 1 3 (k0_off17_eq k) x _ _, flat_load mB.view fm _ _ k 1 4 (k0_off18_eq k) x _ _, flat_load mB.view fm _ _ k 1 5 (k0_off19_eq k) x _ _,
      flat_load mB.view fm _ _ k 1 6 (k0_off20_eq k) x _ _, flat_load mB.view fm _ _ k 1 7 (k0_off21_eq k) x _ _]
  · refine Flat.trip _ _ _ _ _ _ _ _ _ _ _ _ _ (fun c x => ?_) ha2
    fin_cases c
    exacts [flat_load mB.view fm _ _ k 2 0 (k0_off22_eq k) x _ _, flat_load mB.view fm _ _ k 2 1 (k0_off23_eq k) x _ _, flat_load mB.view fm _ _ k 2 2 (k0_off24_eq k) x _ _,
      flat_load mB.view fm _ _ k 2 3 (k0_off25_eq k) x _ _, flat_load mB.view fm _ _ k 2 4 (k0_off26_eq k) x _ _, flat_load mB.view fm _ _ k 2 5 (k0_off27_eq k) x _ _,
      flat_load mB.view fm _ _ k 2 6 (k0_off28_eq k) x _ _, flat_load mB.view fm _ _ k 2 7 (k0_off29_eq k) x _ _]
  · refine Flat.trip _ _ _ _ _ _ _ _ _ _ _ _ _ (fun c x => ?_) ha3
    fin_cases c
    exacts [flat_load mB.view fm _ _ k 3 0 (k0_off30_eq k) x _ _, flat_load mB.view fm _ _ k 3 1 (k0_off31_eq k) x _ _, flat_load mB.view fm _ _ k 3 2 (k0_off32_eq k) x _ _,
      flat_load mB.view fm _ _ k 3 3 (k0_off33_eq k) x _ _, flat_load mB.view fm _ _ k 3 4 (k0_off34_eq k) x _ _, flat_load mB.view fm _ _ k 3 5 (k0_off35_eq k) x _ _,
      flat_load mB.view fm _ _ k 3 6 (k0_off36_eq k) x _ _, flat_load mB.view fm _ _ k 3 7 (k0_off37_eq k) x _ _]
  · refine Flat.trip _ _ _ _ _ _ _ _ _ _ _ _ _ (fun c x => ?_) hb0
    fin_cases c
    exacts [flat_load sB.view fs _ _ k 0 0 (k0_off5_eq k) x _ _, flat_load sB.view fs _ _ k 0 1 (k0_off7_eq k) x _ _, flat_load sB.view fs _ _ k 0 2 (k0_off8_eq k) x _ _,
      flat_load sB.view fs _ _ k 0 3 (k0_off9_eq k) x _ _, flat_load sB.view fs _ _ k 0 4 (k0_off10_eq k) x _ _, flat_load sB.view fs _ _ k 0 5 (k0_off11_eq k) x _ _,
      flat_load sB.view fs _ _ k 0 6 (k0_off12_eq k) x _ _, flat_load sB.view fs _ _ k 0 7 (k0_off13_eq k) x _ _]
  · refine Flat.trip _ _ _ _ _ _ _ _ _ _ _ _ _ (fun c x => ?_) hb1
    fin_cases c
    exacts [flat_load sB.view fs _ _ k 1 0 (k0_off14_eq k) x _ _, flat_load sB.view fs _ _ k 1 1 (k0_off15_eq k) x _ _, flat_load sB.view fs _ _ k 1 2 (k0_off16_eq k) x _ _,
      flat_load sB.view fs _ _ k 1 3 (k0_off17_eq k) x _ _, flat_load sB.view fs _ _ k 1 4 (k0_off18_eq k) x _ _, flat_load sB.view fs _ _ k 1 5 (k0_off19_eq k) x _ _,
      flat_load sB.view fs _ _ k 1 6 (k0_off20_eq k) x _ _, flat_load sB.view fs _ _ k 1 7 (k0_off21_eq k) x _ _]
  · refine Flat.trip _ _ _ _ _ _ _ _ _ _ _ _ _ (fun c x => ?_) hb2
    fin_cases c
    exacts [flat_load sB.view fs _ _ k 2 0 (k0_off22_eq k) x _ _, flat_load sB.view fs _ _ k 2 1 (k0_off23_eq k) x _ _, flat_load sB.view fs _ _ k 2 2 (k0_off24_eq k) x _ _,
      flat_load sB.view fs _ _ k 2 3 (k0_off25_eq k) x _ _, flat_load sB.view fs _ _ k 2 4 (k0_off26_eq k) x _ _, flat_load sB.view fs _ _ k 2 5 (k0_off27_eq k) x _ _,
      flat_load sB.view fs _ _ k 2 6 (k0_off28_eq k) x _ _, flat_load sB.view fs _ _ k 2 7 (k0_off29_eq k) x _ _]
  · refine Flat.trip _ _ _ _ _ _ _ _ _ _ _ _ _ (fun c x => ?_) hb3
    fin_cases c
    exacts [flat_load sB.view fs _ _ k 3 0 (k0_off30_eq k) x _ _, flat_load sB.view fs _ _ k 3 1 (k0_off31_eq k) x _ _, flat_load sB.view fs _ _ k 3 2 (k0_off32_eq k) x _ _,
      flat_load sB.view fs _ _ k 3 3 (k0_off33_eq k) x _ _, flat_load sB.view fs _ _ k 3 4 (k0_off34_eq k) x _ _, flat_load sB.view fs _ _ k 3 5 (k0_off35_eq k) x _ _,
      flat_load sB.view fs _ _ k 3 6 (k0_off36_eq k) x _ _, flat_load sB.view fs _ _ k 3 7 (k0_off37_eq k) x _ _]

end Trip

end Cert.Proof

end
-- ==== Proof.Words.lean ====
/-
  The tile's index words as numbers.

  A tile owns positions `C … C + 1023` of the token sequence, `C = base L`. For a segment `[A, B)` with `A, B ≤ 32768` that
  meets them, the kernel computes (as 32-bit words) the first and last position of the segment inside the tile, the groups of
  sixteen positions to visit, the first of the nine table rows to fetch and the place in the flat buffers a group starts at.
  This module reads each of those words as a number, and shows that every access of the kernel's segment step is in bounds.
-/
module

public import proofs.«01_k».proof.Proof.Base
public import Idealize.ShloMosaic.Lib.Affine
public import Idealize.ShloMosaic.Lib.Affine.Words
public import Idealize.ShloMosaic.Lib.LoopRemainder

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Affine

/-! ## The numbers -/

/-- The first position of a tile. -/
def base (L : grid0.Coords) : ℕ := 1024 * (2 * (L 1).val + (L 0).val)
/-- The first position of the segment inside a tile that starts at `C`. -/
def fst (C A : ℕ) : ℕ := A - C
/-- One past the last position of the segment inside a tile. -/
def lst (C B : ℕ) : ℕ := min (B - C) 1024
/-- The first of the nine table rows fetched. -/
def row (C A : ℕ) : ℕ := min ((C - A) / 128) 247
/-- The group trip `t` visits. -/
def grp (C A t : ℕ) : ℕ := fst C A / 16 + t
/-- The place in the flat buffers that trip `t` reads from. -/
def off (C A t : ℕ) : ℕ := 16 * grp C A t + C + 16 - A - 128 * row C A

/-- A tile's positions lie among the 32768 tokens. -/
theorem base_le (L : grid0.Coords) : base L ≤ 31744 := by
  have h0 : (L 0).val < 2 := (L 0).isLt
  have h1 : (L 1).val < 16 := (L 1).isLt
  unfold base; omega

/-! ## Two operations read signed -/

/-- An unsigned shift of a nonnegative word by `n < 32` is division by `2 ^ n`. -/
theorem isInt_shrui {x : BitVec 32} {e : Int} (hx : IsInt x e) (n : ℕ) (hn : n < 32) (h : 0 ≤ e) :
    IsInt (Scalar.shrui x (BitVec.ofNat 32 n)) (e / 2 ^ n) := by
  have hu := toNat_of hx h
  have hlt : e < 2 ^ 31 := by
    have := (word_range x).2
    unfold IsInt at hx
    omega
  have hs : Scalar.shrui x (BitVec.ofNat 32 n) = x >>> n := by
    have hn' : (BitVec.ofNat 32 n).toNat = n := by rw [BitVec.toNat_ofNat]; exact Nat.mod_eq_of_lt (by omega)
    unfold Scalar.shrui IntOp.shrui
    rw [hn', if_pos hn, BitVec.ushiftRight_eq', hn']
  have hv : ((x >>> n).toNat : Int) = e / 2 ^ n := by
    rw [BitVec.toNat_ushiftRight, Nat.shiftRight_eq_div_pow, ← hu]
    push_cast; rfl
  have hle : e / 2 ^ n ≤ e := Int.ediv_le_self _ h
  rw [hs]
  have := isInt_toNat (x >>> n) (by omega)
  rwa [hv] at this

/-- The low seven bits of a nonnegative word are its remainder by 128. -/
theorem isInt_andi127 {x : BitVec 32} {e : Int} (hx : IsInt x e) (h : 0 ≤ e) : IsInt (Scalar.andi x 127#32) (e % 128) := by
  have hu := toNat_of hx h
  have hv : ((Scalar.andi x 127#32).toNat : Int) = e % 128 := by
    have : (Scalar.andi x 127#32).toNat = x.toNat % 128 := by
      show (x &&& 127#32).toNat = _
      rw [BitVec.toNat_and]
      exact Nat.and_two_pow_sub_one_eq_mod x.toNat 7
    rw [this, ← hu]; rfl
  have := isInt_toNat (Scalar.andi x 127#32) (by omega)
  rwa [hv] at this

/-! ## The words -/

/-- The tile's first position. -/
abbrev wC (L : grid0.Coords) : BitVec 32 :=
  Scalar.muli (Scalar.addi (Scalar.muli (BitVec.ofNat 32 (L 1).val) 2#32) (BitVec.ofNat 32 (L 0).val)) 1024#32
/-- The segment's first position in the tile. -/
abbrev wFst (L : grid0.Coords) (a : BitVec 32) : BitVec 32 := Scalar.maxsi (Scalar.subi a (wC L)) 0#32
/-- One past the segment's last position in the tile. -/
abbrev wLst (L : grid0.Coords) (b : BitVec 32) : BitVec 32 := Scalar.minsi (Scalar.subi b (wC L)) 1024#32
/-- The first table row. -/
abbrev wRow (L : grid0.Coords) (a : BitVec 32) : BitVec 32 :=
  Scalar.minsi (Scalar.shrui (Scalar.maxsi (Scalar.subi (wC L) a) 0#32) 7#32) 247#32
/-- The first group. -/
abbrev wGrp (L : grid0.Coords) (a : BitVec 32) : BitVec 32 := Scalar.shrui (wFst L a) 4#32
/-- What is added to a position to get its place in the flat buffers. -/
abbrev wOff (L : grid0.Coords) (a : BitVec 32) : BitVec 32 :=
  Scalar.addi (Scalar.subi (Scalar.subi (wC L) a) (Scalar.muli (wRow L a) 128#32)) 16#32
/-- The number of groups. -/
abbrev wCnt (L : grid0.Coords) (a b : BitVec 32) : BitVec 32 :=
  Scalar.subi (Scalar.addi (Scalar.shrui (Scalar.subi (wLst L b) 1#32) 4#32) 1#32) (wGrp L a)

section
variable (L : grid0.Coords) {a b : BitVec 32} {A B : ℕ}

/-- The tile's first position, read as a number. -/
theorem isInt_wC : IsInt (wC L) (base L) := by
  have h0 : (L 0).val < 2 := (L 0).isLt
  have h1 : (L 1).val < 16 := (L 1).isLt
  have e1 := Affine.ofNat (e := ((L 1).val : Int)) (L 1).val ⟨rfl, by omega⟩
  have e0 := Affine.ofNat (e := ((L 0).val : Int)) (L 0).val ⟨rfl, by omega⟩
  have e2 := muli (e := 2 * ((L 1).val : Int)) e1 (isInt_lit 2) ⟨by omega, by omega, by omega⟩
  have e3 := addi (e := 2 * ((L 1).val : Int) + (L 0).val) e2 e0 ⟨rfl, by omega, by omega⟩
  exact muli e3 (isInt_lit 1024) ⟨by unfold base; push_cast; ring, by unfold base; push_cast; omega, by unfold base; push_cast; omega⟩

variable (ha : IsInt a A) (hA : A ≤ 32768) (hb : IsInt b B) (hB : B ≤ 32768)
include ha hA

/-- The segment's first position in the tile. -/
theorem isInt_wFst : IsInt (wFst L a) (fst (base L) A) := by
  have hC := base_le L
  have e1 := subi (e := (A : Int) - base L) ha (isInt_wC L) ⟨rfl, by omega, by omega⟩
  exact maxsi e1 (isInt_lit 0) (by unfold fst; omega)

/-- The first table row. -/
theorem isInt_wRow : IsInt (wRow L a) (row (base L) A) := by
  have hC := base_le L
  have e1 := subi (e := (base L : Int) - A) (isInt_wC L) ha ⟨rfl, by omega, by omega⟩
  have e2 := maxsi (e := ((base L - A : ℕ) : Int)) e1 (isInt_lit 0) (by omega)
  have e3 := isInt_shrui e2 7 (by decide) (by omega)
  exact minsi e3 (isInt_lit 247) (by unfold row; push_cast; norm_num)

/-- The first group. -/
theorem isInt_wGrp : IsInt (wGrp L a) (fst (base L) A / 16 : ℕ) := by
  have e := isInt_shrui (isInt_wFst L ha hA) 4 (by decide) (by omega)
  have e' : ((fst (base L) A : Int)) / 2 ^ 4 = ((fst (base L) A / 16 : ℕ) : Int) := by push_cast; rfl
  rwa [e'] at e

/-- What is added to a position. -/
theorem isInt_wOff : IsInt (wOff L a) ((base L : Int) + 16 - A - 128 * row (base L) A) := by
  have hC := base_le L
  have hr : row (base L) A ≤ 247 := min_le_right _ _
  have e1 := subi (e := (base L : Int) - A) (isInt_wC L) ha ⟨rfl, by omega, by omega⟩
  have e2 := muli (e := 128 * (row (base L) A : Int)) (isInt_wRow L ha hA) (isInt_lit 128) ⟨by push_cast; ring, by omega, by omega⟩
  have e3 := subi (e := (base L : Int) - A - 128 * row (base L) A) e1 e2 ⟨rfl, by omega, by omega⟩
  exact addi e3 (isInt_lit 16) ⟨by push_cast; ring, by omega, by omega⟩

/-- The nine rows fetched are rows of the table, and start where the number says. -/
theorem off4_eq : k0_off4 L a = ![row (base L) A, 0, 0] := by
  have h := toNat_of (isInt_wRow L ha hA) (by omega)
  have h' : (wRow L a).toNat = row (base L) A := by exact_mod_cast h
  show ![(wRow L a).toNat, 0, 0] = _
  rw [h']

include hb hB

/-- One past the segment's last position in the tile. -/
theorem isInt_wLst (h : base L ≤ B) : IsInt (wLst L b) (lst (base L) B) := by
  have hC := base_le L
  have e1 := subi (e := (B : Int) - base L) hb (isInt_wC L) ⟨rfl, by omega, by omega⟩
  exact minsi e1 (isInt_lit 1024) (by unfold lst; omega)

/-- The branch is taken exactly when the segment is not empty and meets the tile. -/
theorem cond1_iff : k0_cond1 L a b = 1#1 ↔ A < base L + 1024 ∧ base L < B ∧ A < B := by
  have hC := base_le L
  have e1 := addi (e := (base L : Int) + 1024) (isInt_wC L) (isInt_lit 1024) ⟨rfl, by omega, by omega⟩
  have key : ∀ c : BitVec 1, Scalar.cmpi .ne (Scalar.extui c) (0#32 : BitVec 32) = 1#1 ↔ c = 1#1 := by decide
  show Scalar.cmpi .ne (Scalar.extui (Scalar.andi (Scalar.andi (Scalar.cmpi .slt a (Scalar.addi (wC L) 1024#32)) (Scalar.cmpi .sgt b (wC L)))
    (Scalar.cmpi .sgt b a))) (0#32 : BitVec 32) = 1#1 ↔ _
  rw [key]
  have k1 : ∀ c d : BitVec 1, Scalar.andi c d = 1#1 ↔ c = 1#1 ∧ d = 1#1 := by decide
  rw [k1, k1]
  have c1 : Scalar.cmpi .slt a (Scalar.addi (wC L) 1024#32) = 1#1 ↔ A < base L + 1024 := by
    refine ⟨fun h => ?_, fun h => slt_holds ha e1 (by omega)⟩
    by_contra hh
    exact slt_fails ha e1 (by omega) h
  have c2 : Scalar.cmpi .sgt b (wC L) = 1#1 ↔ base L < B := by
    refine ⟨fun h => ?_, fun h => sgt_holds hb (isInt_wC L) (by omega)⟩
    by_contra hh
    exact sgt_fails hb (isInt_wC L) (by omega) h
  have c3 : Scalar.cmpi .sgt b a = 1#1 ↔ A < B := by
    refine ⟨fun h => ?_, fun h => sgt_holds hb ha (by omega)⟩
    by_contra hh
    exact sgt_fails hb ha (by omega) h
  rw [c1, c2, c3, and_assoc]

variable (hc : k0_cond1 L a b = 1#1)
include hc

/-- The number of groups the segment's positions in the tile lie in. -/
theorem isInt_wCnt : IsInt (wCnt L a b) ((lst (base L) B - 1) / 16 + 1 - fst (base L) A / 16 : ℕ) := by
  have hC := base_le L
  obtain ⟨h1, h2, h3⟩ := (cond1_iff L ha hA hb hB).mp hc
  have hl : 1 ≤ lst (base L) B := by unfold lst; omega
  have hl' : lst (base L) B ≤ 1024 := min_le_right _ _
  have hfl : fst (base L) A < lst (base L) B := by unfold fst lst; omega
  have e1 := subi (e := ((lst (base L) B - 1 : ℕ) : Int)) (isInt_wLst L ha hA hb hB (by omega)) (isInt_lit 1) ⟨by omega, by omega, by omega⟩
  have e2 := isInt_shrui e1 4 (by decide) (by omega)
  have e2' : (((lst (base L) B - 1 : ℕ) : Int)) / 2 ^ 4 = (((lst (base L) B - 1) / 16 : ℕ) : Int) := by push_cast; rfl
  rw [e2'] at e2
  have e3 := addi (e := (((lst (base L) B - 1) / 16 + 1 : ℕ) : Int)) e2 (isInt_lit 1) ⟨by push_cast; rfl, by omega, by omega⟩
  exact subi e3 (isInt_wGrp L ha hA) ⟨by omega, by omega, by omega⟩

/-- The loop over the groups makes one trip per group. -/
theorem t3_trips : (k0_t3_loop L a b).trips = (lst (base L) B - 1) / 16 + 1 - fst (base L) A / 16 := by
  have hl' : lst (base L) B ≤ 1024 := min_le_right _ _
  have hf : fst (base L) A ≤ 32768 := by unfold fst; omega
  have e := isInt_wCnt L ha hA hb hB hc
  have eg := isInt_wGrp L ha hA
  have hm : IsInt (Scalar.addi (wGrp L a) (Scalar.muli (Scalar.divsi (wCnt L a b) 1#32) 1#32))
      (((fst (base L) A / 16 : ℕ) : Int) + ((lst (base L) B - 1) / 16 + 1 - fst (base L) A / 16 : ℕ)) := by
    rw [Scalar.muli_divsi_one]
    exact addi eg e ⟨rfl, by omega, by omega⟩
  show Scf.trips (wGrp L a) (Scalar.addi (wGrp L a) (Scalar.muli (Scalar.divsi (wCnt L a b) 1#32) 1#32)) 1#32 = _
  exact trips_eq eg hm (isInt_lit 1) _ ⟨by decide, by omega⟩

/-- The loop over the groups is meaningful. -/
theorem t3_ok : (k0_t3_loop L a b).OK := by
  have hl' : lst (base L) B ≤ 1024 := min_le_right _ _
  have hf : fst (base L) A ≤ 32768 := by unfold fst; omega
  have e := isInt_wCnt L ha hA hb hB hc
  have eg := isInt_wGrp L ha hA
  have hm : IsInt (Scalar.addi (wGrp L a) (Scalar.muli (Scalar.divsi (wCnt L a b) 1#32) 1#32))
      (((fst (base L) A / 16 : ℕ) : Int) + ((lst (base L) B - 1) / 16 + 1 - fst (base L) A / 16 : ℕ)) := by
    rw [Scalar.muli_divsi_one]
    exact addi eg e ⟨rfl, by omega, by omega⟩
  show Scf.OK (wGrp L a) (Scalar.addi (wGrp L a) (Scalar.muli (Scalar.divsi (wCnt L a b) 1#32) 1#32)) 1#32
  exact Affine.ok eg hm (isInt_lit 1) ⟨by decide, by omega⟩

/-- A trip's group is one of the sixty-four of the tile. -/
theorem grp_lt (t : Fin (k0_t3_loop L a b).trips) : grp (base L) A t.val < 64 := by
  have ht := lt_of_lt_of_eq t.isLt (t3_trips L ha hA hb hB hc)
  have hl' : lst (base L) B ≤ 1024 := min_le_right _ _
  unfold grp; omega

/-- The word of a trip's first position. -/
theorem isInt_pos (t : Fin (k0_t3_loop L a b).trips) :
    IsInt (Scalar.muli (Scf.iv (wGrp L a) 1#32 t.val) 16#32) ((16 * grp (base L) A t.val : ℕ) : Int) := by
  have hg := grp_lt L ha hA hb hB hc t
  have e1 := Affine.iv (e := (grp (base L) A t.val : Int)) (isInt_wGrp L ha hA) (isInt_lit 1) t.val
    ⟨by unfold grp; push_cast; ring, by omega, by omega⟩
  exact muli e1 (isInt_lit 16) ⟨by push_cast; ring, by omega, by omega⟩

/-- A trip's row of the tile. -/
theorem pos_row (t : Fin (k0_t3_loop L a b).trips) :
    (Scalar.shrui (Scalar.muli (Scf.iv (wGrp L a) 1#32 t.val) 16#32) 7#32).toNat = grp (base L) A t.val / 8 := by
  have e := isInt_shrui (isInt_pos L ha hA hb hB hc t) 7 (by decide) (by omega)
  have h := toNat_of e (by omega)
  omega

/-- A trip's first lane. -/
theorem pos_lane (t : Fin (k0_t3_loop L a b).trips) :
    (Scalar.andi (Scalar.muli (Scf.iv (wGrp L a) 1#32 t.val) 16#32) 127#32).toNat = 16 * (grp (base L) A t.val % 8) := by
  have e := isInt_andi127 (isInt_pos L ha hA hb hB hc t) (by omega)
  have h := toNat_of e (by omega)
  omega

/-- Where trip `t` reads and writes channel 0 of the tile. -/
theorem off38_eq (t : Fin (k0_t3_loop L a b).trips) :
    k0_off38 L a b t = ![grp (base L) A t.val / 8, 0, 16 * (grp (base L) A t.val % 8)] := by
  rw [← pos_row L ha hA hb hB hc t, ← pos_lane L ha hA hb hB hc t]; rfl
/-- Where trip `t` reads and writes channel 1 of the tile. -/
theorem off40_eq (t : Fin (k0_t3_loop L a b).trips) :
    k0_off40 L a b t = ![grp (base L) A t.val / 8, 1, 16 * (grp (base L) A t.val % 8)] := by
  rw [← pos_row L ha hA hb hB hc t, ← pos_lane L ha hA hb hB hc t]; rfl
/-- Where trip `t` reads and writes channel 2 of the tile. -/
theorem off41_eq (t : Fin (k0_t3_loop L a b).trips) :
    k0_off41 L a b t = ![grp (base L) A t.val / 8, 2, 16 * (grp (base L) A t.val % 8)] := by
  rw [← pos_row L ha hA hb hB hc t, ← pos_lane L ha hA hb hB hc t]; rfl
/-- Where trip `t` reads and writes channel 3 of the tile. -/
theorem off42_eq (t : Fin (k0_t3_loop L a b).trips) :
    k0_off42 L a b t = ![grp (base L) A t.val / 8, 3, 16 * (grp (base L) A t.val % 8)] := by
  rw [← pos_row L ha hA hb hB hc t, ← pos_lane L ha hA hb hB hc t]; rfl

/-- Nothing was cut off in `off`: the place plus what is taken away is the position plus what is added; and the sixteen
    elements read there are in the flat buffers. -/
theorem off_spec (t : Fin (k0_t3_loop L a b).trips) :
    off (base L) A t.val + A + 128 * row (base L) A = 16 * grp (base L) A t.val + base L + 16 ∧ off (base L) A t.val + 16 ≤ 1184 := by
  have hC := base_le L
  have hg := grp_lt L ha hA hb hB hc t
  have hf : fst (base L) A = A - base L := rfl
  have hr : row (base L) A = min ((base L - A) / 128) 247 := rfl
  have hgd : grp (base L) A t.val = fst (base L) A / 16 + t.val := rfl
  have ho : off (base L) A t.val = 16 * grp (base L) A t.val + base L + 16 - A - 128 * row (base L) A := rfl
  omega

/-- Where trip `t` reads the flat buffers. -/
theorem off39_eq (t : Fin (k0_t3_loop L a b).trips) : k0_off39 L a b t = ![off (base L) A t.val] := by
  obtain ⟨h1, h2⟩ := off_spec L ha hA hb hB hc t
  have hg := grp_lt L ha hA hb hB hc t
  have e := addi (e := (off (base L) A t.val : Int)) (isInt_pos L ha hA hb hB hc t) (isInt_wOff L ha hA) ⟨by omega, by omega, by omega⟩
  have h := toNat_of e (by omega)
  have h' : (Scalar.addi (Scalar.muli (Scf.iv (wGrp L a) 1#32 t.val) 16#32) (wOff L a)).toNat = off (base L) A t.val := by exact_mod_cast h
  rw [← h']; rfl

end

/-- The second loop over the groups has no trip. -/
theorem t4_no_trip (L : grid0.Coords) (a b : BitVec 32) (t : Fin (k0_t4_loop L a b).trips) : False :=
  Scf.rem_no_trip (wGrp L a) (wCnt L a b) t

/-- Every access of the step for a segment `[A, B)` is in bounds. -/
theorem chk1 (L : grid0.Coords) {a b : BitVec 32} {A B : ℕ} (ha : IsInt a A) (hA : A ≤ 32768) (hb : IsInt b B) (hB : B ≤ 32768) :
    k0_chk1 L a b := by
  have tile : ∀ (hc : k0_cond1 L a b = 1#1) (t : Fin (k0_t3_loop L a b).trips) (j : ℕ) (hj : j < 4) (x : Fin 3),
      (![grp (base L) A t.val / 8, j, 16 * (grp (base L) A t.val % 8)] : Fin 3 → ℕ) x + S1x1x16.size x ≤ S8x4x128.size x := by
    intro hc t j hj x
    have hg := grp_lt L ha hA hb hB hc t
    match x with
    | ⟨0, _⟩ => show grp (base L) A t.val / 8 + 1 ≤ 8; omega
    | ⟨1, _⟩ => show j + 1 ≤ 4; omega
    | ⟨2, _⟩ => show 16 * (grp (base L) A t.val % 8) + 16 ≤ 128; omega
  refine ⟨fun _ x => ?_, fun hc => t3_ok L ha hA hb hB hc, fun t hc x => ?_, fun t hc x => ?_, fun t hc x => ?_, fun t hc x => ?_,
    fun t hc x => ?_, fun _ => ?_, fun t => (t4_no_trip L a b t).elim, fun t => (t4_no_trip L a b t).elim,
    fun t => (t4_no_trip L a b t).elim, fun t => (t4_no_trip L a b t).elim, fun t => (t4_no_trip L a b t).elim⟩
  · rw [off4_eq L ha hA]
    have hr : row (base L) A ≤ 247 := min_le_right _ _
    match x with
    | ⟨0, _⟩ => show row (base L) A + 9 ≤ 256; omega
    | ⟨1, _⟩ => show 0 + 4 ≤ 4; omega
    | ⟨2, _⟩ => show 0 + 128 ≤ 128; omega
  · rw [off38_eq L ha hA hb hB hc]; exact tile hc t 0 (by decide) x
  · rw [off39_eq L ha hA hb hB hc]
    obtain rfl : x = 0 := Subsingleton.elim _ _
    exact (off_spec L ha hA hb hB hc t).2
  · rw [off40_eq L ha hA hb hB hc]; exact tile hc t 1 (by decide) x
  · rw [off41_eq L ha hA hb hB hc]; exact tile hc t 2 (by decide) x
  · rw [off42_eq L ha hA hb hB hc]; exact tile hc t 3 (by decide) x
  · exact Scf.rem_ok (wGrp L a) (wCnt L a b)

end Cert.Proof

end
-- ==== Proof.Groups.lean ====
/-
  The normalising loop of a tile over the groups of sixteen positions that a segment meets.

  A trip visits one group: for each channel it reads the group's sixteen tokens and the sixteen means and deviations that
  belong to them, and puts the normalised values where the position lies in the segment. After the trips up to group `g`
  the positions of the segment below `16 g` are normalised and all others are as they were.
-/
module

public import proofs.«01_k».proof.Proof.Rearrange
public import proofs.«01_k».proof.Proof.Words
public import Idealize.ShloMosaic.Lib.Pipeline.Value
public import Idealize.ShloMosaic.Lib.Writes

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Affine

variable {F : FTy → Type}

section Values

variable [FloatOps F]

/-! ## What a trip computes -/

/-- One token's value, normalised by a mean and a deviation. -/
def nrm (x m s : F .f32) : F .f32 := FloatOps.divf (FloatOps.subf x m) s

/-- Row `i`, channel `j` of a table whose [32768, 4] elements are stored as [256, 4, 128]. -/
def tab (M : S256x4x128.Idx → F .f32) (j : Fin 4) (i : ℕ) : F .f32 :=
  M (ix3 ⟨i / 128 % 256, Nat.mod_lt _ (by decide)⟩ j ⟨i % 128, Nat.mod_lt _ (by decide)⟩)

/-- Nine rows `a` are rows `rw` to `rw + 8` of the table. -/
def Rows (a : S9x4x128.Idx → F .f32) (M : S256x4x128.Idx → F .f32) (rw : ℕ) : Prop :=
  ∀ (r : Fin 9) (j : Fin 4) (l : Fin 128), a (ix3 r j l) = tab M j (128 * (rw + r.val) + l.val)

/-- Channel `j` of the tile that starts at `C`: the positions of the segment `[A, B)` below `16 g` are normalised, the
    others are `x`'s. -/
def Norm (C A B : ℕ) (x : S8x4x128.Idx → F .f32) (M S : S256x4x128.Idx → F .f32) (j : Fin 4) (g : ℕ)
    (y : S8x4x128.Idx → F .f32) : Prop :=
  ∀ (r : Fin 8) (l : Fin 128), y (ix3 r j l)
    = if A ≤ C + (128 * r.val + l.val) ∧ C + (128 * r.val + l.val) < B ∧ 128 * r.val + l.val < 16 * g then
        nrm (x (ix3 r j l)) (tab M j (C + (128 * r.val + l.val) - A)) (tab S j (C + (128 * r.val + l.val) - A))
      else x (ix3 r j l)

/-- Before the segment's first group nothing is normalised. -/
theorem Norm.start (C A B : ℕ) (x : S8x4x128.Idx → F .f32) (M S : S256x4x128.Idx → F .f32) (j : Fin 4) :
    Norm C A B x M S j (fst C A / 16) x := fun r l => by
  rw [if_neg]
  unfold fst
  omega

/-! ## The payloads, element by element -/

/-- The numbers 0 to 15. -/
abbrev lanes : IVec S16 32 := iota .scVector S16 32 [0] iota_S16_d0_w32_scVector

/-- What is stored for a group: lane by lane, the normalised value where the mask is set and the old value elsewhere. -/
theorem pay_apply (w : IVec S16 1) (x : S1x1x16.Idx → F .f32) (m s : S16.Idx → F .f32) (p : Fin 16) :
    k0_pay3 (F := F) w x m s (ix3 (n0 := 1) (n1 := 1) (n2 := 16) 0 0 p)
      = if w (ix1 p) = 1#1 then nrm (x (ix3 (n0 := 1) (n1 := 1) (n2 := 16) 0 0 p)) (m (ix1 p)) (s (ix1 p))
        else x (ix3 (n0 := 1) (n1 := 1) (n2 := 16) 0 0 p) := by
  unfold k0_pay3
  rw [shapeCast_apply _ _ (ix3 (n0 := 1) (n1 := 1) (n2 := 16) 0 0 p) (ix1 p) (by
    rw [Shape.rowMajor_val_three, Shape.rowMajor_val_one]; simp)]
  have ex : shapeCast S16 x shapeCasts_S1x1x16_S16 (ix1 p) = x (ix3 (n0 := 1) (n1 := 1) (n2 := 16) 0 0 p) :=
    shapeCast_apply _ _ _ _ (by rw [Shape.rowMajor_val_three, Shape.rowMajor_val_one]; simp)
  rw [← ex]
  show (if w (ix1 p) = 1#1 then nrm _ (shapeCast S16 m _ (ix1 p)) (shapeCast S16 s _ (ix1 p)) else _) = _
  rw [shapeCast_self, shapeCast_self]

variable (L : grid0.Coords) {a b : BitVec 32} {A B : ℕ}

/-- The mask of a trip: lane `p` is set exactly when the position `16 g + p` lies in the segment. -/
theorem mask_iff (ha : IsInt a A) (hA : A ≤ 32768) (hb : IsInt b B) (hB : B ≤ 32768) (hc : k0_cond1 L a b = 1#1)
    (t : Fin (k0_t3_loop L a b).trips) (p : Fin 16) :
    k0_pay81 L lanes a b (wFst L a) (wLst L b) (wGrp L a) 1#32 t (ix1 p) = 1#1
      ↔ A ≤ base L + (16 * grp (base L) A t.val + p.val) ∧ base L + (16 * grp (base L) A t.val + p.val) < B := by
  have hCB := ((cond1_iff L ha hA hb hB).mp hc).2.1
  have hg := grp_lt L ha hA hb hB hc t
  have e1 := isInt_pos L ha hA hb hB hc t
  have e2 : IsInt (lanes (ix1 p)) (p.val : ℕ) := by
    show IsInt (iota _ _ _ _ _ _) _
    rw [iota_single_apply]
    exact isInt_lit _ (by show p.val < _; omega)
  have e3 := addi (e := ((16 * grp (base L) A t.val + p.val : ℕ) : Int)) e2 e1 ⟨by push_cast; ring, by omega, by omega⟩
  have e4 := isInt_wFst L ha hA
  have e5 := isInt_wLst L ha hA hb hB hCB.le
  unfold IsInt at e3 e4 e5
  show Scalar.andi (IntOp.cmpi .sge (Scalar.addi (lanes (ix1 p)) (Scalar.muli (Scf.iv (wGrp L a) 1#32 t.val) 16#32)) (wFst L a))
    (IntOp.cmpi .slt (Scalar.addi (lanes (ix1 p)) (Scalar.muli (Scf.iv (wGrp L a) 1#32 t.val) 16#32)) (wLst L b)) = 1#1 ↔ _
  rw [Scalar.andi, IntOp.andi_eq_one, IntOp.cmpi_sge, IntOp.cmpi_slt, e3, e4, e5]
  unfold fst lst
  omega

/-! ## A store of one group of one channel -/

variable {κ κ' κ'' : Kind} {sp sp' sp'' : Space} (v : View sig κ sp S8x4x128 .f32) (f : v.ty.Contents (Elt F))

/-- A store into channel `j` leaves the other channels. -/
theorem Norm.other {C : ℕ} {x : S8x4x128.Idx → F .f32} {M S : S256x4x128.Idx → F .f32} {j j' : Fin 4} {g G : ℕ} (hj : j' ≠ j)
    (o : Fin 3 → ℕ) (ho : o = ![G / 8, j.val, 16 * (G % 8)]) (h : ∀ a, o a + S1x1x16.size a ≤ S8x4x128.size a)
    (w : S1x1x16.Idx → F .f32) (ps : List (View.Piece (Elt F) S8x4x128 .f32))
    (H : Norm C A B x M S j' g (v.read (Elt F) (v.writes (Elt F) f ps))) :
    Norm C A B x M S j' g (v.read (Elt F) (v.writes (Elt F) f (⟨Rect.unit (s := S8x4x128) o S1x1x16.size h, w⟩ :: ps))) := by
  intro r l
  rw [← H r l]
  refine View.read_writes_cons_miss_of_axis v f _ ps _ 1 j.val 1 (by subst ho; rfl) rfl rfl ?_
  show j'.val < _ ∨ _ ≤ j'.val
  have : j'.val ≠ j.val := fun h => hj (Fin.ext h)
  omega

/-- A trip's store into channel `j` normalises the group's positions of the segment. -/
theorem Norm.step (ha : IsInt a A) (hA : A ≤ 32768) (hb : IsInt b B) (hB : B ≤ 32768) (hc : k0_cond1 L a b = 1#1)
    (t : Fin (k0_t3_loop L a b).trips) {x : S8x4x128.Idx → F .f32} {M S : S256x4x128.Idx → F .f32} {j : Fin 4}
    (o : Fin 3 → ℕ) (ho : o = ![grp (base L) A t.val / 8, j.val, 16 * (grp (base L) A t.val % 8)])
    (h : ∀ a, o a + S1x1x16.size a ≤ S8x4x128.size a)
    (vm : View sig κ' sp' S1184 .f32) (fm : vm.ty.Contents (Elt F)) (vs : View sig κ'' sp'' S1184 .f32) (fs : vs.ty.Contents (Elt F))
    (ra rb : S9x4x128.Idx → F .f32) (hm : Flat vm fm ra j 9) (hs : Flat vs fs rb j 9)
    (hra : Rows ra M (row (base L) A)) (hrb : Rows rb S (row (base L) A))
    (h39 : ∀ c, k0_off39 L a b t c + S16.size c ≤ S1184.size c) (ps : List (View.Piece (Elt F) S8x4x128 .f32))
    (H : Norm (base L) A B x M S j (grp (base L) A t.val) (v.read (Elt F) (v.writes (Elt F) f ps))) :
    Norm (base L) A B x M S j (grp (base L) A t.val + 1) (v.read (Elt F) (v.writes (Elt F) f
      (⟨Rect.unit (s := S8x4x128) o S1x1x16.size h,
        k0_pay3 (F := F) (k0_pay81 L lanes a b (wFst L a) (wLst L b) (wGrp L a) 1#32 t)
          (v.readAt (Elt F) (Rect.unit (s := S8x4x128) o S1x1x16.size h).toLoadRect (v.writes (Elt F) f ps))
          (vm.readAt (Elt F) (Rect.unit (s := S1184) (k0_off39 L a b t) S16.size h39).toLoadRect fm)
          (vs.readAt (Elt F) (Rect.unit (s := S1184) (k0_off39 L a b t) S16.size h39).toLoadRect fs)⟩ :: ps))) := by
  have hg := grp_lt L ha hA hb hB hc t
  have hC := base_le L
  obtain ⟨hoff, hoff'⟩ := off_spec L ha hA hb hB hc t
  have h39e : k0_off39 L a b t 0 = off (base L) A t.val := by rw [off39_eq L ha hA hb hB hc t]; rfl
  have hrow : row (base L) A = min ((base L - A) / 128) 247 := rfl
  intro r l
  have hr : r.val < 8 := r.isLt
  have hl : l.val < 128 := l.isLt
  generalize hG : grp (base L) A t.val = G at *
  rcases Classical.em (r.val = G / 8 ∧ l.val / 16 = G % 8) with ⟨h1, h2⟩ | hne
  · have hp : l.val % 16 < 16 := Nat.mod_lt _ (by decide)
    have hpos : 128 * r.val + l.val = 16 * G + l.val % 16 := by omega
    have emb : (Rect.unit (s := S8x4x128) o S1x1x16.size h).emb (ix3 (n0 := 1) (n1 := 1) (n2 := 16) 0 0 ⟨l.val % 16, hp⟩) = ix3 r j l := by
      apply Rect.emb_eq_of_coords
      intro c
      subst ho
      match c with
      | ⟨0, _⟩ => show r.val = G / 8 + 1 * 0; omega
      | ⟨1, _⟩ => show j.val = j.val + 1 * 0; omega
      | ⟨2, _⟩ => show l.val = 16 * (G % 8) + 1 * (l.val % 16); omega
    rw [View.read_writes_cons_hit v f _ _ ps _ _ emb, pay_apply, View.readAt_apply]
    have e0 : (Rect.unit (s := S8x4x128) o S1x1x16.size h).toLoadRect.idx (ix3 (n0 := 1) (n1 := 1) (n2 := 16) 0 0 ⟨l.val % 16, hp⟩) = ix3 r j l := by
      rw [← emb]; rfl
    have hy : v.read (Elt F) (v.writes (Elt F) f ps) (ix3 r j l) = x (ix3 r j l) := by
      rw [H r l, if_neg (by omega)]
    rw [e0, hy]
    have hmask := mask_iff L ha hA hb hB hc t ⟨l.val % 16, hp⟩
    rw [hG] at hmask
    rcases Classical.em (A ≤ base L + (16 * G + l.val % 16) ∧ base L + (16 * G + l.val % 16) < B) with hin | hout
    · have hq : base L + (128 * r.val + l.val) - A - 128 * row (base L) A < 1152 := by omega
      have read : ∀ {κ : Kind} {sp : Space} (u : View sig κ sp S1184 .f32) (fu : u.ty.Contents (Elt F)) (ru : S9x4x128.Idx → F .f32)
          (T : S256x4x128.Idx → F .f32), Flat u fu ru j 9 → Rows ru T (row (base L) A) →
          u.readAt (Elt F) (Rect.unit (s := S1184) (k0_off39 L a b t) S16.size h39).toLoadRect fu (ix1 ⟨l.val % 16, hp⟩)
            = tab T j (base L + (128 * r.val + l.val) - A) := fun u fu ru T hu hru => by
        rw [View.readAt_apply]
        have e := hu ⟨(base L + (128 * r.val + l.val) - A - 128 * row (base L) A) / 128, by omega⟩
          ⟨(base L + (128 * r.val + l.val) - A - 128 * row (base L) A) % 128, Nat.mod_lt _ (by decide)⟩ (by dsimp only; omega)
        rw [hru] at e
        refine Eq.trans (congrArg _ ?_) (e.trans (congrArg _ ?_))
        · funext c
          apply Fin.ext
          obtain rfl : c = 0 := Subsingleton.elim _ _
          show k0_off39 L a b t 0 + 1 * (l.val % 16) = 128 * ((base L + (128 * r.val + l.val) - A - 128 * row (base L) A) / 128)
            + (base L + (128 * r.val + l.val) - A - 128 * row (base L) A) % 128 + 16
          rw [h39e]
          omega
        · dsimp only
          omega
      rw [if_pos (hmask.mpr hin), if_pos (by omega), read vm fm ra M hm hra, read vs fs rb S hs hrb]
    · rw [if_neg (fun h => hout (hmask.mp h)), if_neg (by omega)]
  · have hy : v.read (Elt F) (v.writes (Elt F) f ps) (ix3 r j l) = _ := H r l
    rw [View.read_writes_cons_miss, hy]
    · refine if_congr ?_ rfl rfl
      omega
    · intro hmem
      have key := (LoadRect.mem_set _).mp hmem
      obtain ⟨y0, hy0, e0⟩ := key 0
      obtain ⟨y2, hy2, e2⟩ := key 2
      have hy0 : y0 < 1 := hy0
      have hy2 : y2 < 16 := hy2
      subst ho
      have e0 : r.val = G / 8 + 1 * y0 := e0
      have e2 : l.val = 16 * (G % 8) + 1 * y2 := e2
      exact hne ⟨by omega, by omega⟩

end Values

section Trip

variable [FloatOps F]

local notation "𝕄" => MT nD τ sig (HIx 1) (Elt F) ℕ UU ℕ

variable (d : Dev nD) (L : grid0.Coords)

/-- A tile's tokens with the positions of the segment `[A, B)` below `16 g` normalised. -/
def NormAll (C A B : ℕ) (x : S8x4x128.Idx → F .f32) (M S : S256x4x128.Idx → F .f32) (g : ℕ) (y : S8x4x128.Idx → F .f32) : Prop :=
  ∀ j, Norm C A B x M S j g y

set_option maxHeartbeats 2000000 in
/-- One trip of the loop over the groups normalises one more group in all four channels. -/
theorem t3_trip {a b : BitVec 32} {A B : ℕ} (ha : IsInt a A) (hA : A ≤ 32768) (hb : IsInt b B) (hB : B ≤ 32768)
    (hw : k0_chk1 L a b) (hc : k0_cond1 L a b = 1#1) (t : Fin (k0_t3_loop L a b).trips)
    (f : Buf (Elt F) (xB.view.loc (VT d L))) (x : S8x4x128.Idx → F .f32) (M S : S256x4x128.Idx → F .f32) (ra rb : S9x4x128.Idx → F .f32)
    (hra : Rows ra M (row (base L) A)) (hrb : Rows rb S (row (base L) A))
    (H : NormAll (base L) A B x M S (grp (base L) A t.val) (xB.view.read (Elt F) f)) :
    (iprop((xB.view.loc (VT d L) ↦{fullShare} f) ∗ flatBufs d L ra rb 9) : sProp 𝕄)
    ⊢ wp frame (wpE (defs₀ (F := F)) 𝒱₀ (VT d L) none) Set.univ
        (k0_t3_body L xM (Memref.isWhole_whole _) pM (Memref.isWhole_whole _) mM (Memref.isWhole_whole _) sM (Memref.isWhole_whole _)
          oM (Memref.isWhole_whole _) pB (Memref.isWhole_whole _) xB (Memref.isWhole_whole _) mB (Memref.isWhole_whole _)
          sB (Memref.isWhole_whole _) m0 (Memref.isWhole_whole _) m1 (Memref.isWhole_whole _) m2 (Memref.isWhole_whole _)
          m3 (Memref.isWhole_whole _) s0 (Memref.isWhole_whole _) s1 (Memref.isWhole_whole _) s2 (Memref.isWhole_whole _)
          s3 (Memref.isWhole_whole _) cc0_scratch12 cc0_scratch13 cc0_scratch14 cc0_scratch15 cc0_scoped0 lanes a b hw hc
          (wFst L a) (wLst L b) (wOff L a) (wGrp L a) t ())
        fun _ => iprop((∃ f' : Buf (Elt F) (xB.view.loc (VT d L)), (xB.view.loc (VT d L) ↦{fullShare} f')
            ∗ ⌜NormAll (base L) A B x M S (grp (base L) A (t.val + 1)) (xB.view.read (Elt F) f')⌝) ∗ flatBufs d L ra rb 9) := by
  unfold flatBufs
  iintro ⟨HX, ⟨%f0, %f1, %f2, %f3, %g0, %g1, %g2, %g3, %hf, H0, H1, H2, H3, G0, G1, G2, G3⟩⟩
  have o0 := off38_eq L ha hA hb hB hc t
  have o1 := off40_eq L ha hA hb hB hc t
  have o2 := off41_eq L ha hA hb hB hc t
  have o3 := off42_eq L ha hA hb hB hc t
  unfold k0_t3_body
  sl_exec
  sl_step
  isplitl [HX]
  · iexists _
    iframe HX
    ipureintro
    obtain ⟨⟨ha0, ha1, ha2, ha3⟩, ⟨hb0, hb1, hb2, hb3⟩⟩ := hf
    intro j
    fin_cases j
    · refine Norm.other _ _ (j := 3) (by decide) _ o3 _ _ _ (Norm.other _ _ (j := 2) (by decide) _ o2 _ _ _
        (Norm.other _ _ (j := 1) (by decide) _ o1 _ _ _ ?_))
      exact Norm.step L _ _ ha hA hb hB hc t _ o0 _ m0.view f0 s0.view g0 ra rb ha0 hb0 hra hrb _ [] (H 0)
    · refine Norm.other _ _ (j := 3) (by decide) _ o3 _ _ _ (Norm.other _ _ (j := 2) (by decide) _ o2 _ _ _ ?_)
      refine Norm.step L _ _ ha hA hb hB hc t _ o1 _ m1.view f1 s1.view g1 ra rb ha1 hb1 hra hrb _ _ ?_
      exact Norm.other _ _ (j := 0) (by decide) _ o0 _ _ _ (H 1)
    · refine Norm.other _ _ (j := 3) (by decide) _ o3 _ _ _ ?_
      refine Norm.step L _ _ ha hA hb hB hc t _ o2 _ m2.view f2 s2.view g2 ra rb ha2 hb2 hra hrb _ _ ?_
      exact Norm.other _ _ (j := 1) (by decide) _ o1 _ _ _ (Norm.other _ _ (j := 0) (by decide) _ o0 _ _ _ (H 2))
    · refine Norm.step L _ _ ha hA hb hB hc t _ o3 _ m3.view f3 s3.view g3 ra rb ha3 hb3 hra hrb _ _ ?_
      exact Norm.other _ _ (j := 2) (by decide) _ o2 _ _ _ (Norm.other _ _ (j := 1) (by decide) _ o1 _ _ _
        (Norm.other _ _ (j := 0) (by decide) _ o0 _ _ _ (H 3)))
  · iexists _; iexists _; iexists _; iexists _; iexists _; iexists _; iexists _; iexists _
    iframe H0; iframe H1; iframe H2; iframe H3; iframe G0; iframe G1; iframe G2; iframe G3
    ipureintro
    exact hf

end Trip
end Cert.Proof

end
-- ==== Proof.Tile.lean ====
module

public import proofs.«01_k».proof.Proof.Groups
public import Idealize.ShloMosaic.Lib.Transfers

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Affine

variable {F : FTy → Type}
section Trip

variable [FloatOps F]

local notation "𝕄" => MT nD τ sig (HIx 1) (Elt F) ℕ UU ℕ

variable (d : Dev nD) (L : grid0.Coords)

/-- The start of segment `k`, as the kernel reads it from its copy of the boundaries. -/
abbrev ptrA (k : Fin k0_t1_loop.trips) (fp : Buf (Elt F) (pB.view.loc (VT d L))) : BitVec 32 :=
  extractAt ![0] (k0_pay1 (F := F) (pB.view.readAt (Elt F) (Rect.unit (s := S33) (k0_off2 k) S16.size (k0_off2_inb k)).toLoadRect fp)) inpos_S1_p0
/-- The end of segment `k`, read likewise. -/
abbrev ptrB (k : Fin k0_t1_loop.trips) (fp : Buf (Elt F) (pB.view.loc (VT d L))) : BitVec 32 :=
  extractAt ![0] (k0_pay2 (F := F) (pB.view.readAt (Elt F) (Rect.unit (s := S33) (k0_off3 k) S16.size (k0_off3_inb k)).toLoadRect fp)) inpos_S1_p0

/-- What the flat buffers hold is forgotten. -/
theorem flatBufs_forget (a b a' b' : S9x4x128.Idx → F .f32) (n : ℕ) : flatBufs d L a b n ⊢ flatBufs d L a' b' 0 := by
  unfold flatBufs
  iintro ⟨%f0, %f1, %f2, %f3, %g0, %g1, %g2, %g3, -, H0, H1, H2, H3, G0, G1, G2, G3⟩
  iexists _; iexists _; iexists _; iexists _; iexists _; iexists _; iexists _; iexists _
  iframe H0; iframe H1; iframe H2; iframe H3; iframe G0; iframe G1; iframe G2; iframe G3
  ipureintro
  exact ⟨⟨Flat.zero _ _ _ _, Flat.zero _ _ _ _, Flat.zero _ _ _ _, Flat.zero _ _ _ _⟩,
    ⟨Flat.zero _ _ _ _, Flat.zero _ _ _ _, Flat.zero _ _ _ _, Flat.zero _ _ _ _⟩⟩

/-- Nine rows copied from a table into a buffer are the table's rows. -/
theorem rows_copied {κ κ' : Kind} {sp sp' : Space} (m : Memref sig κ sp S256x4x128 .f32) (g : m.view.ty.Contents (Elt F))
    (v : View sig κ' sp' S9x4x128 .f32) (f : v.ty.Contents (Elt F)) (rw : ℕ) (hrw : rw + 9 ≤ 256) (o : Fin 3 → ℕ) (ho : o = ![rw, 0, 0])
    (h : ∀ a, o a + S9x4x128.size a ≤ S256x4x128.size a) (hs : ∀ a, (Rect.unit (s := S256x4x128) o S9x4x128.size h).stride a = 1) :
    Rows (v.read (Elt F) (View.write (Elt F) v f (ReadAs.same.apply
      ((m.slice (Rect.unit (s := S256x4x128) o S9x4x128.size h) hs).view.read (Elt F) g)) Finset.univ)) (m.view.read (Elt F) g) rw := by
  subst ho
  intro r j l
  have hr := r.isLt
  have hl := l.isLt
  rw [View.read_write_univ]
  unfold tab
  show m.view.read (Elt F) g ((Rect.unit (s := S256x4x128) ![rw, 0, 0] S9x4x128.size h).emb (ix3 r j l)) = _
  congr 1
  funext c
  apply Fin.ext
  match c with
  | ⟨0, _⟩ => show rw + 1 * r.val = (128 * (rw + r.val) + l.val) / 128 % 256; omega
  | ⟨1, _⟩ => show 0 + 1 * j.val = j.val; omega
  | ⟨2, _⟩ => show 0 + 1 * l.val = (128 * (rw + r.val) + l.val) % 128; omega

/-- The tokens of a tile that starts at `C` after the segment `[A, B)`: its positions are normalised by the tables' rows
    counted from the segment's first, the others are as they were. -/
def Seg (C A B : ℕ) (M S : S256x4x128.Idx → F .f32) (x y : S8x4x128.Idx → F .f32) : Prop :=
  ∀ (r : Fin 8) (j : Fin 4) (l : Fin 128), y (ix3 r j l)
    = if A ≤ C + (128 * r.val + l.val) ∧ C + (128 * r.val + l.val) < B then
        nrm (x (ix3 r j l)) (tab M j (C + (128 * r.val + l.val) - A)) (tab S j (C + (128 * r.val + l.val) - A))
      else x (ix3 r j l)

/-- Past the last group every position of the segment is normalised. -/
theorem Seg.of_all {C A B : ℕ} {M S : S256x4x128.Idx → F .f32} {x y : S8x4x128.Idx → F .f32} {g : ℕ} (hg : lst C B ≤ 16 * g)
    (H : NormAll C A B x M S g y) : Seg C A B M S x y := fun r j l => by
  have hr := r.isLt
  have hl := l.isLt
  rw [H j r l]
  refine if_congr ?_ rfl rfl
  unfold lst at hg
  omega

/-- A segment that does not meet the tile changes nothing. -/
theorem Seg.of_none {C A B : ℕ} {M S : S256x4x128.Idx → F .f32} {x : S8x4x128.Idx → F .f32}
    (H : ¬(A < C + 1024 ∧ C < B ∧ A < B)) : Seg C A B M S x x := fun r j l => by
  have hr := r.isLt
  have hl := l.isLt
  rw [if_neg]
  omega

/-- What a tile holds between two segments, beside its tokens. -/
def held1 (O : CellTallies nD τ sig (HIx 1)) (q : PosShare TreeShare) (fp : Buf (Elt F) (pB.view.loc (VT d L)))
    (fM : Buf (Elt F) (mM.view.loc (VT d L))) (fS : Buf (Elt F) (sM.view.loc (VT d L))) : sProp 𝕄 :=
  iprop((pB.view.loc (VT d L) ↦{fullShare} fp) ∗ (mM.view.loc (VT d L) ↦{q} fM) ∗ (sM.view.loc (VT d L) ↦{q} fS)
      ∗ (∃ fm : Buf (Elt F) (mB.view.loc (VT d L)), mB.view.loc (VT d L) ↦{fullShare} fm)
      ∗ (∃ fs : Buf (Elt F) (sB.view.loc (VT d L)), sB.view.loc (VT d L) ↦{fullShare} fs)
      ∗ (∃ ra rb, flatBufs d L ra rb 0)
      ∗ semVal (VT d L, SemLoc.dma cc0_scratch13.sem) 0 ∗ semVal (VT d L, SemLoc.dma cc0_scratch14.sem) 0
      ∗ ∃ W : Waits sig (HIx 1), owes (VT d L) O W)

set_option maxHeartbeats 2000000 in
/-- One trip of the loop over the segments. -/
theorem t1_trip (k : Fin k0_t1_loop.trips) (O : CellTallies nD τ sig (HIx 1)) (q : PosShare TreeShare)
    (fp : Buf (Elt F) (pB.view.loc (VT d L))) (f : Buf (Elt F) (xB.view.loc (VT d L)))
    (fM : Buf (Elt F) (mM.view.loc (VT d L))) (fS : Buf (Elt F) (sM.view.loc (VT d L))) {A B : ℕ}
    (ha : IsInt (ptrA d L k fp) A) (hA : A ≤ 32768) (hb : IsInt (ptrB d L k fp) B) (hB : B ≤ 32768) :
    (iprop(Transfers.MayWaits (VT d L) (default : HIx 1) O ∗ (xB.view.loc (VT d L) ↦{fullShare} f) ∗ held1 d L O q fp fM fS) : sProp 𝕄)
    ⊢ wp frame (wpE (defs₀ (F := F)) 𝒱₀ (VT d L) none) Set.univ
        (k0_t1_body L xM (Memref.isWhole_whole _) pM (Memref.isWhole_whole _) mM (Memref.isWhole_whole _) sM (Memref.isWhole_whole _)
          oM (Memref.isWhole_whole _) pB (Memref.isWhole_whole _) xB (Memref.isWhole_whole _) mB (Memref.isWhole_whole _)
          sB (Memref.isWhole_whole _) m0 (Memref.isWhole_whole _) m1 (Memref.isWhole_whole _) m2 (Memref.isWhole_whole _)
          m3 (Memref.isWhole_whole _) s0 (Memref.isWhole_whole _) s1 (Memref.isWhole_whole _) s2 (Memref.isWhole_whole _)
          s3 (Memref.isWhole_whole _) cc0_scratch12 cc0_scratch13 cc0_scratch14 cc0_scratch15 cc0_scoped0 (wC L) lanes k ())
        fun _ => iprop((∃ f' : Buf (Elt F) (xB.view.loc (VT d L)), (xB.view.loc (VT d L) ↦{fullShare} f')
            ∗ ⌜Seg (base L) A B (mM.view.read (Elt F) fM) (sM.view.read (Elt F) fS) (xB.view.read (Elt F) f) (xB.view.read (Elt F) f')⌝)
          ∗ held1 d L O q fp fM fS) := by
  unfold held1
  iintro ⟨#Hmw, HX, HP, HM, HS, ⟨%fm, Hm⟩, ⟨%fs, Hs⟩, ⟨%ra, %rb, HF⟩, Hc1, Hc2, ⟨%W, HO⟩⟩
  have hchk : k0_chk1 L (ptrA d L k fp) (ptrB d L k fp) := chk1 L ha hA hb hB
  unfold k0_t1_body
  rw [k0_part21_eq_skeleton]
  unfold k0_part21_skel
  rcases Classical.em (k0_cond1 L (ptrA d L k fp) (ptrB d L k fp) = 1#1) with hc | hc
  · sl_exec (disch := sl_exact hc)
    have hra : Rows (mB.view.read (Elt F) (View.write (Elt F) mB.view fm (t1_trip.sl.dma2 d L k fp fM hchk hc) Finset.univ))
        (mM.view.read (Elt F) fM) (row (base L) A) :=
      rows_copied mM fM mB.view fm _ (by unfold row; omega) _ (off4_eq L ha hA) _ _
    have hrb : Rows (sB.view.read (Elt F) (View.write (Elt F) sB.view fs (t1_trip.sl.dma2_1 d L k fp fS hchk hc) Finset.univ))
        (sM.view.read (Elt F) fS) (row (base L) A) :=
      rows_copied sM fS sB.view fs _ (by unfold row; omega) _ (off4_eq L ha hA) _ _
    revert hra hrb
    generalize (View.write (Elt F) mB.view fm (t1_trip.sl.dma2 d L k fp fM hchk hc) Finset.univ) = fm'
    generalize (View.write (Elt F) sB.view fs (t1_trip.sl.dma2_1 d L k fp fS hchk hc) Finset.univ) = fs'
    intro hra hrb
    ihave HF := flatBufs_forget d L ra rb (mB.view.read (Elt F) fm') (sB.view.read (Elt F) fs') 0 $$ HF
    rw [wp_bind]
    sl_for (fun (n : ℕ) (_ : Unit) => iprop((mB.view.loc (VT d L) ↦{fullShare} fm') ∗ (sB.view.loc (VT d L) ↦{fullShare} fs')
      ∗ flatBufs d L (mB.view.read (Elt F) fm') (sB.view.read (Elt F) fs') n)) $$ [Hm Hs HF]
    case region =>
      intro t _
      exact t2_trip d L _ _ _ _ _ t fm' fs'
    · iframe Hm; iframe Hs; iexact HF
    iintro %_ ⟨Hm, Hs, HF⟩
    have e9 : Scf.trips k0_t2_loop.lb k0_t2_loop.ub k0_t2_loop.st = 9 := by decide
    rw [e9]
    have hA' := (cond1_iff L ha hA hb hB).mp hc
    have start : NormAll (base L) A B (xB.view.read (Elt F) f) (mM.view.read (Elt F) fM) (sM.view.read (Elt F) fS)
      (grp (base L) A 0) (xB.view.read (Elt F) f) := fun j => Norm.start _ _ _ _ _ _ j
    unfold t1_trip.sl.prog.cont_1
    rw [wp_pure]
    dsimp only
    imodintro
    sl_for (fun (n : ℕ) (_ : Unit) => iprop((∃ f' : Buf (Elt F) (xB.view.loc (VT d L)), (xB.view.loc (VT d L) ↦{fullShare} f')
        ∗ ⌜NormAll (base L) A B (xB.view.read (Elt F) f) (mM.view.read (Elt F) fM) (sM.view.read (Elt F) fS)
            (grp (base L) A n) (xB.view.read (Elt F) f')⌝)
      ∗ flatBufs d L (mB.view.read (Elt F) fm') (sB.view.read (Elt F) fs') 9)) $$ [HX HF]
    case region =>
      intro t _
      iintro ⟨⟨%f', HX, %H⟩, HF⟩
      iapply (t3_trip d L ha hA hb hB hchk hc t f' _ _ _ _ _ hra hrb H)
      iframe HX; iexact HF
    · isplitl [HX]
      · iexists _
        iframe HX
        ipureintro
        exact start
      · iexact HF
    iintro %_ ⟨⟨%f', HX, %H⟩, HF⟩
    sl_exec
    sl_step
    isplitl [HX]
    · iexists _
      iframe HX
      ipureintro
      have hT := t3_trips L ha hA hb hB hc
      refine Seg.of_all ?_ H
      have hl : lst (base L) B = min (B - base L) 1024 := rfl
      have hf : fst (base L) A = A - base L := rfl
      have e : grp (base L) A (k0_t3_loop L (ptrA d L k fp) (ptrB d L k fp)).trips = (lst (base L) B - 1) / 16 + 1 := by
        rw [hT]; unfold grp; omega
      exact le_of_le_of_eq (by omega : lst (base L) B ≤ 16 * ((lst (base L) B - 1) / 16 + 1)) (congrArg (16 * ·) e.symm)
    iframe HP; iframe HM; iframe HS
    isplitl [Hm]; · iexists _; iexact Hm
    isplitl [Hs]; · iexists _; iexact Hs
    isplitl [HF]; · iexists _; iexists _; iapply (flatBufs_forget d L _ _ ra rb 9); iexact HF
    iframe Hc1; iframe Hc2
    iexists _; iexact HO
  · sl_exec (disch := sl_exact hc)
    sl_step
    isplitl [HX]
    · iexists _
      iframe HX
      ipureintro
      exact Seg.of_none (fun h => hc ((cond1_iff L ha hA hb hB).mpr h))
    iframe HP; iframe HM; iframe HS
    isplitl [Hm]; · iexists _; iexact Hm
    isplitl [Hs]; · iexists _; iexact Hs
    isplitl [HF]; · iexists _; iexists _; iexact HF
    iframe Hc1; iframe Hc2
    iexists _; iexact HO

/-! ## All the segments -/

omit [FloatOps F] in
/-- The first boundary a trip loads. -/
theorem ptrA_eq (k : Fin k0_t1_loop.trips) (fp : Buf (Elt F) (pB.view.loc (VT d L))) :
    ptrA d L k fp = pB.view.read (Elt F) fp (ix1 ⟨k.val, lt_of_lt_of_le k.isLt (by decide)⟩) := by
  show shapeCast S16 (pB.view.readAt (Elt F) _ fp) shapeCasts_S16_S16 _ = _
  refine (shapeCast_apply _ _ _ _ rfl).trans ?_
  rw [View.readAt_apply]
  congr 1
  funext c
  apply Fin.ext
  obtain rfl : c = 0 := Subsingleton.elim _ _
  show k0_off2 k 0 + 1 * 0 = k.val
  rw [k0_off2_eq]; simp

omit [FloatOps F] in
/-- The second boundary a trip loads. -/
theorem ptrB_eq (k : Fin k0_t1_loop.trips) (fp : Buf (Elt F) (pB.view.loc (VT d L))) :
    ptrB d L k fp = pB.view.read (Elt F) fp (ix1 ⟨k.val + 1, by have : k.val < 16 := lt_of_lt_of_eq k.isLt (by decide); omega⟩) := by
  show shapeCast S16 (pB.view.readAt (Elt F) _ fp) shapeCasts_S16_S16 _ = _
  refine (shapeCast_apply _ _ _ _ rfl).trans ?_
  rw [View.readAt_apply]
  congr 1
  funext c
  apply Fin.ext
  obtain rfl : c = 0 := Subsingleton.elim _ _
  show k0_off3 k 0 + 1 * 0 = k.val + 1
  rw [k0_off3_eq]; simp

/-- Boundary `i` of the segments, a number. -/
def bnd (p : S17.Idx → BitVec 32) (i : ℕ) : ℕ := (p (ix1 ⟨min i 16, by omega⟩)).toNat

/-- The value of position `n`, channel `j`, after the first `k` segments. -/
def fold (p : S17.Idx → BitVec 32) (M S : S256x4x128.Idx → F .f32) (n : ℕ) (j : Fin 4) (x : F .f32) : ℕ → F .f32
  | 0 => x
  | k + 1 => if bnd p k ≤ n ∧ n < bnd p (k + 1) then
      nrm (fold p M S n j x k) (tab M j (n - bnd p k)) (tab S j (n - bnd p k)) else fold p M S n j x k

/-- A tile's tokens after the first `k` segments. -/
def Done (C : ℕ) (p : S17.Idx → BitVec 32) (M S : S256x4x128.Idx → F .f32) (x : S8x4x128.Idx → F .f32) (k : ℕ) (y : S8x4x128.Idx → F .f32) : Prop :=
  ∀ (r : Fin 8) (j : Fin 4) (l : Fin 128), y (ix3 r j l) = fold p M S (C + (128 * r.val + l.val)) j (x (ix3 r j l)) k

/-- One more segment. -/
theorem Done.succ {C : ℕ} {p : S17.Idx → BitVec 32} {M S : S256x4x128.Idx → F .f32} {x y z : S8x4x128.Idx → F .f32} {k : ℕ}
    (H : Done C p M S x k y) (H' : Seg C (bnd p k) (bnd p (k + 1)) M S y z) : Done C p M S x (k + 1) z := fun r j l => by
  rw [H' r j l, H r j l]
  rfl

/-- A tile's slice of the tokens in main memory. -/
abbrev xBlk : Memref sig .scVector .hbm S8x4x128 .f32 :=
  xM.slice (Rect.unit (s := S256x4x128) (k0_off1 L) S8x4x128.size (k0_off1_inb L)) (fun _ => rfl)
/-- A tile's slice of the result in main memory. -/
abbrev oBlk : Memref sig .scVector .hbm S8x4x128 .f32 :=
  oM.slice (Rect.unit (s := S256x4x128) (k0_off1 L) S8x4x128.size (k0_off1_inb L)) (fun _ => rfl)

set_option maxHeartbeats 2000000 in
/-- A tile's run. -/
theorem tile_run (O : CellTallies nD τ sig (HIx 1)) (W : Waits sig (HIx 1)) (q : PosShare TreeShare)
    (fX : Buf (Elt F) (xM.view.loc (VT d L))) (fP : Buf (Elt F) (pM.view.loc (VT d L)))
    (fM : Buf (Elt F) (mM.view.loc (VT d L))) (fS : Buf (Elt F) (sM.view.loc (VT d L)))
    (fO : Buf (Elt F) ((oBlk L).view.loc (VT d L)))
    (fp : Buf (Elt F) (pB.view.loc (VT d L))) (f : Buf (Elt F) (xB.view.loc (VT d L)))
    (fm : Buf (Elt F) (mB.view.loc (VT d L))) (fs : Buf (Elt F) (sB.view.loc (VT d L))) (ra rb : S9x4x128.Idx → F .f32)
    (hP : ∀ i, (pM.view.read (Elt F) fP i).toNat ≤ 32768) :
    (iprop(Transfers.MayWaits (VT d L) (default : HIx 1) O
      ∗ (xM.view.loc (VT d L) ↦{q} fX) ∗ (pM.view.loc (VT d L) ↦{q} fP) ∗ (mM.view.loc (VT d L) ↦{q} fM) ∗ (sM.view.loc (VT d L) ↦{q} fS)
      ∗ ((oBlk L).view.loc (VT d L) ↦[(oBlk L).view.set]{fullShare} fO)
      ∗ (pB.view.loc (VT d L) ↦{fullShare} fp) ∗ (xB.view.loc (VT d L) ↦{fullShare} f)
      ∗ (mB.view.loc (VT d L) ↦{fullShare} fm) ∗ (sB.view.loc (VT d L) ↦{fullShare} fs) ∗ flatBufs d L ra rb 0
      ∗ semVal (VT d L, SemLoc.dma cc0_scratch12.sem) 0 ∗ semVal (VT d L, SemLoc.dma cc0_scratch13.sem) 0
      ∗ semVal (VT d L, SemLoc.dma cc0_scratch14.sem) 0 ∗ semVal (VT d L, SemLoc.dma cc0_scratch15.sem) 0
      ∗ semVal (VT d L, SemLoc.dma cc0_scoped0.sem) 0 ∗ owes (VT d L) O W) : sProp 𝕄)
    ⊢ wp frame (wpE (defs₀ (F := F)) 𝒱₀ (VT d L) none) Set.univ
        (cc0__normalize_sc L xM (Memref.isWhole_whole _) pM (Memref.isWhole_whole _) mM (Memref.isWhole_whole _) sM (Memref.isWhole_whole _)
          oM (Memref.isWhole_whole _) pB (Memref.isWhole_whole _) xB (Memref.isWhole_whole _) mB (Memref.isWhole_whole _)
          sB (Memref.isWhole_whole _) m0 (Memref.isWhole_whole _) m1 (Memref.isWhole_whole _) m2 (Memref.isWhole_whole _)
          m3 (Memref.isWhole_whole _) s0 (Memref.isWhole_whole _) s1 (Memref.isWhole_whole _) s2 (Memref.isWhole_whole _)
          s3 (Memref.isWhole_whole _) cc0_scratch12 cc0_scratch13 cc0_scratch14 cc0_scratch15 cc0_scoped0)
        fun _ => iprop((xM.view.loc (VT d L) ↦{q} fX) ∗ (pM.view.loc (VT d L) ↦{q} fP) ∗ (mM.view.loc (VT d L) ↦{q} fM) ∗ (sM.view.loc (VT d L) ↦{q} fS)
      ∗ (∃ g : Buf (Elt F) ((oBlk L).view.loc (VT d L)), ((oBlk L).view.loc (VT d L) ↦[(oBlk L).view.set]{fullShare} g)
          ∗ ⌜Done (base L) (pM.view.read (Elt F) fP) (mM.view.read (Elt F) fM) (sM.view.read (Elt F) fS) ((xBlk L).view.read (Elt F) fX) 16
              ((oBlk L).view.read (Elt F) g)⌝)
      ∗ (∃ fp : Buf (Elt F) (pB.view.loc (VT d L)), pB.view.loc (VT d L) ↦{fullShare} fp)
      ∗ (∃ f : Buf (Elt F) (xB.view.loc (VT d L)), xB.view.loc (VT d L) ↦{fullShare} f)
      ∗ (∃ fm : Buf (Elt F) (mB.view.loc (VT d L)), mB.view.loc (VT d L) ↦{fullShare} fm)
      ∗ (∃ fs : Buf (Elt F) (sB.view.loc (VT d L)), sB.view.loc (VT d L) ↦{fullShare} fs)
      ∗ (∃ ra rb, flatBufs d L ra rb 0)
      ∗ semVal (VT d L, SemLoc.dma cc0_scratch12.sem) 0 ∗ semVal (VT d L, SemLoc.dma cc0_scratch13.sem) 0
      ∗ semVal (VT d L, SemLoc.dma cc0_scratch14.sem) 0 ∗ semVal (VT d L, SemLoc.dma cc0_scratch15.sem) 0
      ∗ semVal (VT d L, SemLoc.dma cc0_scoped0.sem) 0 ∗ ∃ W' : Waits sig (HIx 1), owes (VT d L) O W') := by
  iintro ⟨#Hmw, HX, HP, HM, HS, HO, Hp, Hx, Hm, Hs, HF, Hc0, Hc1, Hc2, Hc3, Hc4, Ho⟩
  rw [cc0__normalize_sc_eq_skeleton]
  unfold cc0__normalize_sc_skel
  sl_exec
  have hp : ∀ i : Fin 17, pB.view.read (Elt F) (pB.view.writes (Elt F) fp
      [⟨Rect.unit (s := S33) ![0] S17.size inb_S33_S17_0, tile_run.sl.dma0_1 d L fP⟩]) (ix1 ⟨i.val, by omega⟩) = pM.view.read (Elt F) fP (ix1 i) :=
    fun i => by
      refine View.read_writes_cons_hit_of_coords pB.view fp (Rect.unit (s := S33) ![0] S17.size inb_S33_S17_0) _ [] (ix1 (n0 := 17) i) _ ?_
      intro c
      obtain rfl : c = 0 := Subsingleton.elim _ _
      show i.val = 0 + 1 * i.val
      omega
  have hx : xB.view.read (Elt F) (View.write (Elt F) xB.view f (tile_run.sl.dma0 d L fX) Finset.univ) = (xBlk L).view.read (Elt F) fX := by
    rw [View.read_write_univ]; rfl
  revert hp hx
  generalize (pB.view.writes (Elt F) fp [⟨Rect.unit (s := S33) ![0] S17.size inb_S33_S17_0, tile_run.sl.dma0_1 d L fP⟩]) = fp'
  generalize (View.write (Elt F) xB.view f (tile_run.sl.dma0 d L fX) Finset.univ) = f0
  intro hp hx
  have hbA : ∀ k : Fin k0_t1_loop.trips, IsInt (ptrA d L k fp') (bnd (pM.view.read (Elt F) fP) k.val : ℕ)
      ∧ IsInt (ptrB d L k fp') (bnd (pM.view.read (Elt F) fP) (k.val + 1) : ℕ) := fun k => by
    have hk : k.val < 16 := lt_of_lt_of_eq k.isLt (by decide)
    have h1 := hp ⟨k.val, by omega⟩
    have h2 := hp ⟨k.val + 1, by omega⟩
    have e1 : bnd (pM.view.read (Elt F) fP) k.val = (pM.view.read (Elt F) fP (ix1 ⟨k.val, by omega⟩)).toNat := by
      unfold bnd; congr 3; exact Fin.ext (by dsimp only; omega)
    have e2 : bnd (pM.view.read (Elt F) fP) (k.val + 1) = (pM.view.read (Elt F) fP (ix1 ⟨k.val + 1, by omega⟩)).toNat := by
      unfold bnd; congr 3; exact Fin.ext (by dsimp only; omega)
    rw [ptrA_eq, ptrB_eq, h1, h2, e1, e2]
    exact ⟨isInt_toNat _ (lt_of_le_of_lt (hP _) (by decide)), isInt_toNat _ (lt_of_le_of_lt (hP _) (by decide))⟩
  sl_for (fun (n : ℕ) (_ : Unit) => iprop(Transfers.MayWaits (VT d L) (default : HIx 1) O
      ∗ (∃ f' : Buf (Elt F) (xB.view.loc (VT d L)), (xB.view.loc (VT d L) ↦{fullShare} f') ∗ ⌜Done (base L) (pM.view.read (Elt F) fP) (mM.view.read (Elt F) fM) (sM.view.read (Elt F) fS) ((xBlk L).view.read (Elt F) fX) n
          (xB.view.read (Elt F) f')⌝) ∗ held1 d L O q fp' fM fS)) $$ [Hx Hp HM HS Hm Hs HF Hc1 Hc2 Ho]
  case region =>
    intro k _
    iintro ⟨#Hmw, ⟨%f', HX, %H⟩, HH⟩
    iapply (wp_wand_r Idealize.ShloMosaic.frame (wpE (defs₀ (F := F)) 𝒱₀ (VT d L) none) Set.univ)
    isplitl [HX HH]
    · iapply (t1_trip d L k O q fp' f' fM fS (hbA k).1 (hP _) (hbA k).2 (hP _))
      iframe Hmw; iframe HX; iexact HH
    · iintro %_ ⟨⟨%f'', HX, %H'⟩, HH⟩
      iframe Hmw; iframe HH
      iexists _
      iframe HX
      ipureintro
      exact Done.succ H H'
  · unfold held1
    iframe Hmw
    isplitl [Hx]
    · iexists _
      iframe Hx
      ipureintro
      rw [hx]
      exact fun _ _ _ => rfl
    iframe Hp; iframe HM; iframe HS
    isplitl [Hm]; · iexists _; iexact Hm
    isplitl [Hs]; · iexists _; iexact Hs
    isplitl [HF]; · iexists _; iexists _; iexact HF
    iframe Hc1; iframe Hc2
    iexists _; iexact Ho
  unfold held1
  iintro %_ ⟨-, ⟨%f', Hx, %H⟩, Hp, HM, HS, ⟨%fm', Hm⟩, ⟨%fs', Hs⟩, HF, Hc1, Hc2, ⟨%W', Ho⟩⟩
  sl_exec
  sl_step
  iframe HX; iframe HP; iframe HM; iframe HS
  isplitl [HO]
  · iexists _
    iframe HO
    ipureintro
    rw [View.read_writes_whole]
    have e16 : Scf.trips k0_t1_loop.lb k0_t1_loop.ub k0_t1_loop.st = 16 := by decide
    rw [e16] at H
    exact H
  isplitl [Hp]; · iexists _; iexact Hp
  isplitl [Hx]; · iexists _; iexact Hx
  isplitl [Hm]; · iexists _; iexact Hm
  isplitl [Hs]; · iexists _; iexact Hs
  iframe HF
  iframe Hc0; iframe Hc1; iframe Hc2; iframe Hc3; iframe Hc4
  iexists _; iexact Ho

end Trip

end Cert.Proof

end
-- ==== Proof.Payload.lean ====
/-
  What the call deals out to the thirty-two tiles and gets back.

  A tile receives a read share of the tokens, of the boundaries and of the two tables, and its own block of eight rows of
  the result. It gives back the same, the block now at its final value. `tile_body` is that statement; the rest of the
  module cuts the five arrays into the tiles' parts and joins them again.
-/
module

public import proofs.«01_k».proof.Proof.Tile
public import Idealize.ShloMosaic.Lib.ShareLeaves

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.StableHlo (held held_sub_split wp_hlo_within)

variable {F : FTy → Type}

/-! ## The value of the result -/

/-- The kernel's result as a function of the tokens `X`, the boundaries `P` and the tables `M` and `S`. -/
def resOf [FloatOps F] (X : S256x4x128.Idx → F .f32) (P : S17.Idx → BitVec 32) (M S : S256x4x128.Idx → F .f32) : S256x4x128.Idx → F .f32 :=
  fun e => fold P M S (128 * (e 0).val + (e 2).val) (e 1) (X e) 16

section Launch

variable [FloatOps F]

local notation "𝕄" => MT nD τ sig (HIx 1) (Elt F) ℕ UU ℕ

variable (m : (ℓ : Loc nD τ sig) → Buf (Elt F) ℓ)

/-! ## The arrays, and what the host operations before the call make of them -/

/-- An array of the program, as a buffer of the device. -/
abbrev tc' (r : Ref sig .tc) : DevRef τ sig := Proc.devRef .tc r

/-- The contents at the launch. -/
def V0 (d : Dev nD) : Valuation τ sig (Elt F) := fun b => m (d, b)

/-- The tokens, cut into 256 groups of 128. -/
abbrev op0 : HloOp τ sig (Elt F) := StableHlo.reshape main_arg0 main_v0 (rfl : (.f32 : EltTy) = .f32) shapeCasts_S32768x4_S256x128x4
/-- The groups of tokens, channels first. -/
abbrev op1 : HloOp τ sig (Elt F) := StableHlo.unary main_v0 main_v1 ((transpose S256x4x128 [0, 2, 1] · transposes_S256x128x4_S256x4x128_0_2_1) : (⟨S256x128x4, .f32⟩ : BufTy).Contents (Elt F) → (⟨S256x4x128, .f32⟩ : BufTy).Contents (Elt F))
/-- The means, cut likewise. -/
abbrev op2 : HloOp τ sig (Elt F) := StableHlo.reshape main_arg2 main_v2 (rfl : (.f32 : EltTy) = .f32) shapeCasts_S32768x4_S256x128x4
/-- The groups of means, channels first. -/
abbrev op3 : HloOp τ sig (Elt F) := StableHlo.unary main_v2 main_v3 ((transpose S256x4x128 [0, 2, 1] · transposes_S256x128x4_S256x4x128_0_2_1) : (⟨S256x128x4, .f32⟩ : BufTy).Contents (Elt F) → (⟨S256x4x128, .f32⟩ : BufTy).Contents (Elt F))
/-- The deviations, cut likewise. -/
abbrev op4 : HloOp τ sig (Elt F) := StableHlo.reshape main_arg3 main_v4 (rfl : (.f32 : EltTy) = .f32) shapeCasts_S32768x4_S256x128x4
/-- The groups of deviations, channels first. -/
abbrev op5 : HloOp τ sig (Elt F) := StableHlo.unary main_v4 main_v5 ((transpose S256x4x128 [0, 2, 1] · transposes_S256x128x4_S256x4x128_0_2_1) : (⟨S256x128x4, .f32⟩ : BufTy).Contents (Elt F) → (⟨S256x4x128, .f32⟩ : BufTy).Contents (Elt F))
/-- The call's result, channels last. -/
abbrev op7 : HloOp τ sig (Elt F) := StableHlo.unary main_v6 main_v7 ((transpose S256x128x4 [0, 2, 1] · transposes_S256x4x128_S256x128x4_0_2_1) : (⟨S256x4x128, .f32⟩ : BufTy).Contents (Elt F) → (⟨S256x128x4, .f32⟩ : BufTy).Contents (Elt F))
/-- The groups joined again: the program's result. -/
abbrev op8 : HloOp τ sig (Elt F) := StableHlo.reshape main_v7 main_v8 (rfl : (.f32 : EltTy) = .f32) shapeCasts_S256x128x4_S32768x4

/-- The contents when the call starts. -/
def V6 (d : Dev nD) : Valuation τ sig (Elt F) :=
  op5.result (op4.result (op3.result (op2.result (op1.result (op0.result (V0 m d))))))

/-- The tokens, in groups, when the call starts; the boundaries and the two tables follow. -/
abbrev X (d : Dev nD) : S256x4x128.Idx → F .f32 := V6 m d (tc' main_v1)
/-- The boundaries of the segments. -/
abbrev PT (d : Dev nD) : S17.Idx → BitVec 32 := V6 m d (tc' main_arg1)
/-- The means, in groups. -/
abbrev M (d : Dev nD) : S256x4x128.Idx → F .f32 := V6 m d (tc' main_v3)
/-- The deviations, in groups. -/
abbrev SD (d : Dev nD) : S256x4x128.Idx → F .f32 := V6 m d (tc' main_v5)

/-- Where the tokens lie. -/
abbrev xLoc (d : Dev nD) : Loc nD τ sig := (SparseCore.T d).loc main_v1
/-- Where the boundaries lie. -/
abbrev pLoc (d : Dev nD) : Loc nD τ sig := (SparseCore.T d).loc main_arg1
/-- Where the means lie. -/
abbrev mLoc (d : Dev nD) : Loc nD τ sig := (SparseCore.T d).loc main_v3
/-- Where the deviations lie. -/
abbrev sLoc (d : Dev nD) : Loc nD τ sig := (SparseCore.T d).loc main_v5
/-- Where the call's result lies. -/
abbrev oLoc (d : Dev nD) : Loc nD τ sig := (SparseCore.T d).loc main_v6

/-- The result of the call. -/
def out (d : Dev nD) : Buf (Elt F) (oLoc d) := resOf (X m d) (PT m d) (M m d) (SD m d)

/-! ## A tile's part -/

/-- The rows of the result that belong to tile `(c, i)` start at `16 i + 8 c`, in blocks of eight. -/
abbrev oix (p : Fin 2 × Fin 16) : Fin 3 → ℕ := ![2 * p.2.val + p.1.val, 0, 0]
/-- Each tile's block lies within the result. -/
theorem oix_inb (p : Fin 2 × Fin 16) : ∀ a, (oix p a + 1) * S8x4x128.size a ≤ S256x4x128.size a := by
  obtain ⟨⟨c, hc⟩, ⟨i, hi⟩⟩ := p
  intro a
  fin_cases a
  · show (2 * i + c + 1) * 8 ≤ 256; omega
  · show (0 + 1) * 4 ≤ 4; omega
  · show (0 + 1) * 128 ≤ 128; omega
/-- The block of rows of tile `(c, i)`. -/
abbrev oRect (p : Fin 2 × Fin 16) : Rect S256x4x128 := Rect.block S8x4x128.size (oix p) (oix_inb p)
/-- The elements of that block. -/
abbrev oSet (p : Fin 2 × Fin 16) : Finset S256x4x128.Idx := (oRect p).set

/-- The read share of tile `(c, i)`. -/
abbrev sh (p : Fin 2 × Fin 16) : PosShare TreeShare := leaf 4 (leaf 1 fullShare p.1) p.2

/-- What tile `(c, i)` holds, its block of the result at `f`. -/
def task (d : Dev nD) (f : Buf (Elt F) (oLoc d)) (p : Fin 2 × Fin 16) : sProp 𝕄 :=
  iprop((xLoc d ↦{sh p} X m d) ∗ (pLoc d ↦{sh p} PT m d) ∗ (mLoc d ↦{sh p} M m d) ∗ (sLoc d ↦{sh p} SD m d) ∗ (oLoc d ↦[oSet p]{fullShare} f))

/-- A tile's part can be kept in an invariant. -/
instance task_storable (d : Dev nD) (f : Buf (Elt F) (oLoc d)) (p : Fin 2 × Fin 16) : BI.Storable (upEmb : UEmb _ 𝕄) (task m d f p) := by
  unfold task; infer_instance

/-- What the sixteen tiles of SparseCore `c` hold. -/
def tasks (d : Dev nD) (f : Buf (Elt F) (oLoc d)) (c : Fin 2) : sProp 𝕄 := bigSep Finset.univ fun i : Fin 16 => task m d f (c, i)

/-- A SparseCore's part can be kept in an invariant. -/
instance tasks_storable (d : Dev nD) (f : Buf (Elt F) (oLoc d)) (c : Fin 2) : BI.Storable (upEmb : UEmb _ 𝕄) (tasks m d f c) := by
  unfold tasks; infer_instance

/-- What the call's handshakes carry: the tiles' parts out, and back with the result written. -/
def P : (K (F := F)).Pay (nD := nD) (Val := Elt F) (Name := ℕ) (U := UU) where
  st := fun q d c => match q with | 0 => tasks m d (m (oLoc d)) (Fin.cast nCore_zero c)
  dn := fun q d c => match q with | 0 => tasks m d (out m d) (Fin.cast nCore_zero c)
  go := fun q d c i => match q with | 0 => task m d (m (oLoc d)) (Fin.cast nCore_zero c, Fin.cast nSub_zero i)
  td := fun q d c i => match q with | 0 => task m d (out m d) (Fin.cast nCore_zero c, Fin.cast nSub_zero i)
  x := fun _ _ => iprop(emp)

/-- All that the handshakes carry can be kept in an invariant. -/
instance P_storable : (P (F := F) m).IsStorable where
  st q d c := match q with | 0 => tasks_storable m d _ _
  dn q d c := match q with | 0 => tasks_storable m d _ _
  go q d c i := match q with | 0 => task_storable m d _ _
  td q d c i := match q with | 0 => task_storable m d _ _

/-- What the run needs of the launch memory: every boundary is at most the number of tokens. -/
def PreOK : Prop := ∀ (d : Dev nD) (j : S17.Idx), (m (pLoc d) j).toNat ≤ 32768

/-- The host operations before the call leave the boundaries alone. -/
theorem V6_p (d : Dev nD) : V6 m d (tc' main_arg1) = m (pLoc d) := by
  unfold V6
  rw [StableHlo.unary_result_ne _ _ _ _ _ _ (by decide), StableHlo.reshape_result_ne _ _ _ _ _ _ _ (by decide),
    StableHlo.unary_result_ne _ _ _ _ _ _ (by decide), StableHlo.reshape_result_ne _ _ _ _ _ _ _ (by decide),
    StableHlo.unary_result_ne _ _ _ _ _ _ (by decide), StableHlo.reshape_result_ne _ _ _ _ _ _ _ (by decide)]
  rfl

/-! ## A tile's own buffers and semaphores -/

section Tile

variable (d : Dev nD) (L : grid0.Coords)

/-- The grid has two SparseCores. -/
theorem bound_zero : grid0.bound 0 = 2 := rfl
/-- Each has sixteen tiles. -/
theorem bound_one : grid0.bound 1 = 16 := rfl
/-- The tile's place in the grid. -/
abbrev pL : Fin 2 × Fin 16 := (Fin.cast bound_zero (L 0), Fin.cast bound_one (L 1))

/-- The tile's five copy semaphores. -/
abbrev dcell (d : Dev nD) (c : Fin τ.nSC) (i : Fin τ.nSub) (k : Fin 5) : GSem nD τ sig := (V d c i, .dma ⟨k.val, k.isLt⟩)

/-- Those five semaphores are the tile's own. -/
theorem dcell_mem (c : Fin τ.nSC) (i : Fin τ.nSub) (k : Fin 5) : dcell d c i k ∈ ownCells (V d c i) :=
  mem_ownCells.mpr ⟨rfl, (show ∀ s : DmaSem sig, (SemLoc.dma s : SemLoc sig).isScoped .scVector = true by decide) _⟩

/-- A tile's own semaphores at zero are the five of its copies and the rest. -/
theorem ownSems0_V :
    (ownSems0 (VT d L) : sProp 𝕄)
      = iprop((semVal (VT d L, SemLoc.dma cc0_scratch12.sem) 0 ∗ semVal (VT d L, SemLoc.dma cc0_scratch13.sem) 0
          ∗ semVal (VT d L, SemLoc.dma cc0_scratch14.sem) 0 ∗ semVal (VT d L, SemLoc.dma cc0_scratch15.sem) 0
          ∗ semVal (VT d L, SemLoc.dma cc0_scoped0.sem) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The tile's twelve scratch buffers. -/
def scr : Fin 12 → Ref sig .scVector :=
  ![cc0_scratch0, cc0_scratch1, cc0_scratch2, cc0_scratch3, cc0_scratch4, cc0_scratch5, cc0_scratch6, cc0_scratch7,
    cc0_scratch8, cc0_scratch9, cc0_scratch10, cc0_scratch11]
/-- The twelve are different buffers. -/
theorem scr_inj : Function.Injective scr := by decide
/-- Scratch buffer `k` of this tile. -/
abbrev scrRef (k : Fin 12) : DevRef τ sig := (Proc.scVector (cV L) (jV L)).devRef (scr k)

/-- It is one of the tile's own buffers. -/
theorem scrRef_mem (k : Fin 12) : scrRef L k ∈ ownRefs (τ := τ) (.scVector (cV L) (jV L)) :=
  SparseCore.Cfg.mem_ownRefs_of_owner (by fin_cases k <;> rfl)

/-- A tile's own buffers are the twelve scratch buffers and the rest. -/
theorem ownBufs_V :
    (ownBufs (VT d L) : sProp 𝕄)
      = iprop(((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ (∃ f, (VT d L).loc cc0_scratch4 ↦{fullShare} f) ∗ (∃ f, (VT d L).loc cc0_scratch5 ↦{fullShare} f)
          ∗ (∃ f, (VT d L).loc cc0_scratch6 ↦{fullShare} f) ∗ (∃ f, (VT d L).loc cc0_scratch7 ↦{fullShare} f)
          ∗ (∃ f, (VT d L).loc cc0_scratch8 ↦{fullShare} f) ∗ (∃ f, (VT d L).loc cc0_scratch9 ↦{fullShare} f)
          ∗ (∃ f, (VT d L).loc cc0_scratch10 ↦{fullShare} f) ∗ (∃ f, (VT d L).loc cc0_scratch11 ↦{fullShare} f))
          ∗ bigSep ((ownRefs (τ := τ) (.scVector (cV L) (jV L))) \ Finset.univ.image (scrRef L))
              fun b => iprop(∃ f, ((d, b) : Loc nD τ sig) ↦{fullShare} f)) := by
  unfold SparseCore.Cfg.ownBufs
  refine (SparseCore.bigSep_sdiff_split' (t := Finset.univ.image (scrRef L))
      (Finset.image_subset_iff.mpr fun k _ => scrRef_mem L k)).trans ?_
  rw [SparseCore.bigSep_image_of_injOn (fun a _ b _ h => scr_inj (Proc.devRef_injective _ h))]
  rw [show (Finset.univ : Finset (Fin 12)) = {0, 1, 2, 3, 4, 5, 6, 7, 8, 9, 10, 11} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-! ## A tile's block of the result -/

/-- The block that the kernel's last copy writes is the tile's block. -/
theorem oRect_eq : Rect.unit (s := S256x4x128) (k0_off1 L) S8x4x128.size (k0_off1_inb L) = oRect (pL L) := by
  unfold oRect Rect.block
  congr 1
  funext a
  rw [k0_off1_eq]
  fin_cases a
  · show 16 * (L 1).val + 8 * (L 0).val = (2 * (L 1).val + (L 0).val) * 8; omega
  · rfl
  · rfl

/-- So are its elements. -/
theorem oBlk_set : (oBlk L).view.set = oSet (pL L) := by
  show ((View.whole (main_v6_scv : Ref sig .scVector)).slice (Rect.unit (s := S256x4x128) (k0_off1 L) S8x4x128.size (k0_off1_inb L))).set = _
  rw [View.set_slice_whole, oRect_eq]

/-- So holding one is holding the other. -/
theorem pts_o (f : Buf (Elt F) (oLoc d)) :
    ((oBlk L).view.loc (VT d L) ↦[(oBlk L).view.set]{fullShare} f : sProp 𝕄) = (oLoc d ↦[oSet (pL L)]{fullShare} f) := by
  rw [oBlk_set]

/-- Element `(r, j, l)` of a tile's block is element `(16 L₁ + 8 L₀ + r, j, l)` of the array. -/
theorem blk_ix (r : Fin 8) (j : Fin 4) (l : Fin 128) :
    (oBlk L).view.emb (ix3 r j l) = ix3 ⟨16 * (L 1).val + 8 * (L 0).val + r.val, by
      have h0 : (L 0).val < 2 := (L 0).isLt
      have h1 : (L 1).val < 16 := (L 1).isLt
      have := r.isLt; omega⟩ j l := by
  funext a
  apply Fin.ext
  show k0_off1 L a + 1 * ((ix3 r j l) a).val = _
  rw [k0_off1_eq]
  fin_cases a
  · show 16 * (L 1).val + 8 * (L 0).val + 1 * r.val = 16 * (L 1).val + 8 * (L 0).val + r.val; omega
  · show 0 + 1 * j.val = j.val; omega
  · show 0 + 1 * l.val = l.val; omega

/-- A block whose tokens are done is the result on the tile's rows. -/
theorem out_of_done (g : Buf (Elt F) (oLoc d))
    (H : Done (base L) (pM.view.read (Elt F) (PT m d)) (mM.view.read (Elt F) (M m d)) (sM.view.read (Elt F) (SD m d))
      ((xBlk L).view.read (Elt F) (X m d)) 16 ((oBlk L).view.read (Elt F) g)) :
    (oLoc d ↦[oSet (pL L)]{fullShare} g : sProp 𝕄) = (oLoc d ↦[oSet (pL L)]{fullShare} out m d) := by
  refine pointsTo_congr fun e he => ?_
  rw [← oBlk_set] at he
  obtain ⟨y, -, rfl⟩ := Finset.mem_map.mp he
  obtain ⟨r, j, l, rfl⟩ : ∃ r j l, y = ix3 r j l := ⟨y 0, y 1, y 2, by funext a; fin_cases a <;> rfl⟩
  have h := H r j l
  have h' : g ((oBlk L).view.emb (ix3 r j l)) = fold (PT m d) (M m d) (SD m d) (base L + (128 * r.val + l.val)) j
      (X m d ((oBlk L).view.emb (ix3 r j l))) 16 := h
  rw [h', blk_ix]
  show _ = fold (PT m d) (M m d) (SD m d) (128 * (16 * (L 1).val + 8 * (L 0).val + r.val) + l.val) j _ 16
  congr 1
  unfold base
  omega

/-! ## A tile's run, from what it is dealt to what it hands back -/

set_option maxHeartbeats 1000000 in
/-- A tile, run on its part of the arrays, ends with its block of the result written, its own buffers and semaphores given back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ task m d (m (oLoc d)) (pL L)
        ∗ scopedBufs (VT d L) ∗ scopedSems0 (VT d L) ∗ owes (VT d L) O W)
      ⊢ wp frame (wpE (defs₀ (F := F)) 𝒱₀ (VT d L) none) Set.univ
        (cc0__normalize_sc L xM (Memref.isWhole_whole _) pM (Memref.isWhole_whole _) mM (Memref.isWhole_whole _) sM (Memref.isWhole_whole _)
          oM (Memref.isWhole_whole _) pB (Memref.isWhole_whole _) xB (Memref.isWhole_whole _) mB (Memref.isWhole_whole _)
          sB (Memref.isWhole_whole _) m0 (Memref.isWhole_whole _) m1 (Memref.isWhole_whole _) m2 (Memref.isWhole_whole _)
          m3 (Memref.isWhole_whole _) s0 (Memref.isWhole_whole _) s1 (Memref.isWhole_whole _) s2 (Memref.isWhole_whole _)
          s3 (Memref.isWhole_whole _) cc0_scratch12 cc0_scratch13 cc0_scratch14 cc0_scratch15 cc0_scoped0)
        fun _ => iprop(task m d (out m d) (pL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold task
  iintro ⟨#Hlv, -, ⟨HX, HP, HM, HS, HO⟩,
    ⟨⟨⟨%b0, B0⟩, ⟨%b1, B1⟩, ⟨%b2, B2⟩, ⟨%b3, B3⟩, ⟨%b4, B4⟩, ⟨%b5, B5⟩, ⟨%b6, B6⟩, ⟨%b7, B7⟩, ⟨%b8, B8⟩, ⟨%b9, B9⟩, ⟨%b10, B10⟩, ⟨%b11, B11⟩⟩, Hbufs⟩,
    ⟨⟨C0, C1, C2, C3, C4⟩, Hsems⟩, Ho⟩
  ihave Hmw := (show levAts (K (F := F)).L (K (F := F)).lev ⊢ Transfers.MayWaits (VT d L) (default : HIx 1) O from
    (K (F := F)).mayWaits_none (thr := VT d L) hO) $$ Hlv
  ihave HO' := (Entails.of_eq (pts_o (F := F) d L _).symm) $$ HO
  iapply (wp_wand_r Idealize.ShloMosaic.frame (wpE (defs₀ (F := F)) 𝒱₀ (VT d L) none) Set.univ)
  isplitl [HX HP HM HS HO' B0 B1 B2 B3 B4 B5 B6 B7 B8 B9 B10 B11 C0 C1 C2 C3 C4 Ho]
  · iapply (tile_run d L O W (sh (pL L)) (X m d) (PT m d) (M m d) (SD m d) (m (oLoc d)) b0 b1 b2 b3
      (mB.view.read (Elt F) b2) (sB.view.read (Elt F) b3) (fun i => by
        show (PT m d i).toNat ≤ 32768
        rw [show PT m d = m (pLoc d) from V6_p m d]; exact hpre d i))
    isplitr; · iexact Hmw
    isplitl [HX]; · iexact HX
    isplitl [HP]; · iexact HP
    isplitl [HM]; · iexact HM
    isplitl [HS]; · iexact HS
    isplitl [HO']; · iexact HO'
    isplitl [B0]; · iexact B0
    isplitl [B1]; · iexact B1
    isplitl [B2]; · iexact B2
    isplitl [B3]; · iexact B3
    isplitl [B4 B5 B6 B7 B8 B9 B10 B11]
    · unfold flatBufs
      iexists b4; iexists b5; iexists b6; iexists b7; iexists b8; iexists b9; iexists b10; iexists b11
      isplitr
      · ipureintro
        exact ⟨⟨Flat.zero _ _ _ _, Flat.zero _ _ _ _, Flat.zero _ _ _ _, Flat.zero _ _ _ _⟩,
          ⟨Flat.zero _ _ _ _, Flat.zero _ _ _ _, Flat.zero _ _ _ _, Flat.zero _ _ _ _⟩⟩
      isplitl [B4]; · iexact B4
      isplitl [B5]; · iexact B5
      isplitl [B6]; · iexact B6
      isplitl [B7]; · iexact B7
      isplitl [B8]; · iexact B8
      isplitl [B9]; · iexact B9
      isplitl [B10]; · iexact B10
      iexact B11
    isplitl [C0]; · iexact C0
    isplitl [C1]; · iexact C1
    isplitl [C2]; · iexact C2
    isplitl [C3]; · iexact C3
    isplitl [C4]; · iexact C4
    iexact Ho
  unfold flatBufs
  iintro %_ ⟨HX, HP, HM, HS, ⟨%g, HO, %Hd⟩, ⟨%c0, B0⟩, ⟨%c1, B1⟩, ⟨%c2, B2⟩, ⟨%c3, B3⟩,
    ⟨%ra, %rb, %f0, %f1, %f2, %f3, %g0, %g1, %g2, %g3, -, B4, B5, B6, B7, B8, B9, B10, B11⟩, C0, C1, C2, C3, C4, ⟨%W', Ho⟩⟩
  isplitl [HX HP HM HS HO]
  · isplitl [HX]; · iexact HX
    isplitl [HP]; · iexact HP
    isplitl [HM]; · iexact HM
    isplitl [HS]; · iexact HS
    iapply (Entails.of_eq ((pts_o (F := F) d L g).trans (out_of_done m d L g Hd))); iexact HO
  isplitl [B0 B1 B2 B3 B4 B5 B6 B7 B8 B9 B10 B11 Hbufs]
  · isplitr [Hbufs]
    · isplitl [B0]; · iexists _; iexact B0
      isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      isplitl [B7]; · iexists _; iexact B7
      isplitl [B8]; · iexists _; iexact B8
      isplitl [B9]; · iexists _; iexact B9
      isplitl [B10]; · iexists _; iexact B10
      iexists _; iexact B11
    iexact Hbufs
  isplitl [C0 C1 C2 C3 C4 Hsems]
  · isplitr [Hsems]
    · isplitl [C0]; · iexact C0
      isplitl [C1]; · iexact C1
      isplitl [C2]; · iexact C2
      isplitl [C3]; · iexact C3
      iexact C4
    iexact Hsems
  iexists W'; isplitr
  · ipureintro; intro p _
    rcases p.2 with _ | q
    · exact .inr (.inl rfl)
    · exact .inr (.inr (congrArg some (Subsingleton.elim q 0)))
  · iexact Ho

end Tile

/-! ## The tiles' obligation to the launch -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the kernel's body at that tile's grid point. -/
theorem defs₀_vector (c : Fin τ.nSC) (s : Fin τ.nSub) :
    defs₀ (F := F) (.scVector c s) 0 ()
      = SparseCore.onTile hcore0 hsub0 (fun c s =>
        cc0__normalize_sc (coordsV c s) xM (Memref.isWhole_whole _) pM (Memref.isWhole_whole _) mM (Memref.isWhole_whole _) sM (Memref.isWhole_whole _)
          oM (Memref.isWhole_whole _) pB (Memref.isWhole_whole _) xB (Memref.isWhole_whole _) mB (Memref.isWhole_whole _)
          sB (Memref.isWhole_whole _) m0 (Memref.isWhole_whole _) m1 (Memref.isWhole_whole _) m2 (Memref.isWhole_whole _)
          m3 (Memref.isWhole_whole _) s0 (Memref.isWhole_whole _) s1 (Memref.isWhole_whole _) s2 (Memref.isWhole_whole _)
          s3 (Memref.isWhole_whole _) cc0_scratch12 cc0_scratch13 cc0_scratch14 cc0_scratch15 cc0_scoped0) ⟨⟩ c s := rfl

/-- Every tile does its part. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

/-- A SparseCore hands its tiles their parts and collects them. -/
theorem vecSplit : (K (F := F)).VecSplit' (P m) 0 := by
  intro d c
  show tasks m d (m (oLoc d)) (Fin.cast nCore_zero c) ⊢ |={Set.univ}=> iprop(
      tasks m d (m (oLoc d)) (Fin.cast nCore_zero c) ∗ (tasks m d (out m d) (Fin.cast nCore_zero c) -∗ tasks m d (out m d) (Fin.cast nCore_zero c)))
  iintro H; imodintro
  isplitl [H]; · iexact H
  iintro H; iexact H

/-! ## The five arrays are the tiles' parts -/

/-- Different tiles have different blocks. -/
theorem oix_injective : Function.Injective oix := fun p p' h => by
  obtain ⟨⟨c, hc⟩, ⟨i, hi⟩⟩ := p
  obtain ⟨⟨c', hc'⟩, ⟨i', hi'⟩⟩ := p'
  have h0 : 2 * i + c = 2 * i' + c' := congrFun h 0
  have e1 : c = c' := by omega
  have e2 : i = i' := by omega
  subst e1; subst e2; rfl
/-- The blocks of different tiles share no element. -/
theorem oSet_disjoint : ∀ p ∈ (Finset.univ : Finset (Fin 2 × Fin 16)), ∀ p' ∈ (Finset.univ : Finset (Fin 2 × Fin 16)), p ≠ p' → Disjoint (oSet p) (oSet p') :=
  fun p _ p' _ h => Rect.block_disjoint _ _ fun e => h (oix_injective e)
/-- Every element of the result lies in one tile's block. -/
theorem oSet_cover : (Finset.univ : Finset (Fin 2 × Fin 16)).biUnion oSet = Finset.univ := by
  refine Finset.eq_univ_of_forall fun x => Finset.mem_biUnion.mpr ?_
  have h0 : (x 0).val < 256 := (x 0).isLt
  have h1 : (x 1).val < 4 := (x 1).isLt
  have h2 : (x 2).val < 128 := (x 2).isLt
  refine ⟨(⟨(x 0).val / 8 % 2, by omega⟩, ⟨(x 0).val / 16, by omega⟩), Finset.mem_univ _, ?_⟩
  rw [Rect.mem_set_unit]
  intro a
  fin_cases a
  · show (2 * ((x 0).val / 16) + (x 0).val / 8 % 2) * 8 ≤ (x 0).val ∧ (x 0).val < (2 * ((x 0).val / 16) + (x 0).val / 8 % 2) * 8 + 8; omega
  · show 0 * 4 ≤ (x 1).val ∧ (x 1).val < 0 * 4 + 4; omega
  · show 0 * 128 ≤ (x 2).val ∧ (x 2).val < 0 * 128 + 128; omega

/-- An array whole is its thirty-two read shares. -/
theorem pts_shares {ℓ : Loc nD τ sig} (f : Buf (Elt F) ℓ) :
    (ℓ ↦{fullShare} f : sProp 𝕄) = bigSep Finset.univ fun p : Fin 2 × Fin 16 => ℓ ↦{sh p} f := by
  rw [BI.bigSep_univ_prod, pointsTo_leaves Finset.univ f 1 fullShare]
  exact bigSep_congr fun c _ => pointsTo_leaves Finset.univ f 4 _

/-- The result whole is the tiles' blocks. -/
theorem pts_blocks (d : Dev nD) (f : Buf (Elt F) (oLoc d)) :
    (oLoc d ↦{fullShare} f : sProp 𝕄) = bigSep Finset.univ fun p : Fin 2 × Fin 16 => oLoc d ↦[oSet p]{fullShare} f := by
  rw [← pointsTo_biUnion Finset.univ (ℓ := oLoc d) oSet oSet_disjoint, oSet_cover]

/-- The tiles' parts together are the five arrays. -/
theorem tasks_eq (d : Dev nD) (f : Buf (Elt F) (oLoc d)) :
    (bigSep Finset.univ fun c : Fin 2 => tasks m d f c)
      = (iprop((xLoc d ↦{fullShare} X m d) ∗ (pLoc d ↦{fullShare} PT m d) ∗ (mLoc d ↦{fullShare} M m d) ∗ (sLoc d ↦{fullShare} SD m d)
          ∗ (oLoc d ↦{fullShare} f)) : sProp 𝕄) := by
  unfold tasks
  rw [← BI.bigSep_univ_prod (Φ := fun p => task m d f p)]
  unfold task
  rw [bigSep_sep', bigSep_sep', bigSep_sep', bigSep_sep', ← pts_shares, ← pts_shares, ← pts_shares, ← pts_shares, ← pts_blocks]

/-- What the call takes for the two SparseCores. -/
theorem st0_eq (d : Dev nD) : (bigSep Finset.univ fun c : Fin ((K (F := F)).nCore 0) => (P m).st 0 d c)
    = (iprop((xLoc d ↦{fullShare} X m d) ∗ (pLoc d ↦{fullShare} PT m d) ∗ (mLoc d ↦{fullShare} M m d) ∗ (sLoc d ↦{fullShare} SD m d)
          ∗ (oLoc d ↦{fullShare} m (oLoc d))) : sProp 𝕄) := tasks_eq m d _
/-- What the call gives back. -/
theorem dn0_eq (d : Dev nD) : (bigSep Finset.univ fun c : Fin ((K (F := F)).nCore 0) => (P m).dn 0 d c)
    = (iprop((xLoc d ↦{fullShare} X m d) ∗ (pLoc d ↦{fullShare} PT m d) ∗ (mLoc d ↦{fullShare} M m d) ∗ (sLoc d ↦{fullShare} SD m d)
          ∗ (oLoc d ↦{fullShare} out m d)) : sProp 𝕄) := tasks_eq m d _

end Launch

end Cert.Proof

end
-- ==== Proof.Launch.lean ====
/-
  The whole program: the host operations around the call, the call itself, and what the run leaves in memory.

  `run_main` states it for any float values: the run ends, the four arguments are as they were, every semaphore is at zero
  and the result holds `result`.
-/
module

public import proofs.«01_k».proof.Proof.Payload

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split wp_hlo_within)

variable {F : FTy → Type}

section Launch

variable [FloatOps F]

local notation "𝕄" => MT nD τ sig (HIx 1) (Elt F) ℕ UU ℕ

variable (m : (ℓ : Loc nD τ sig) → Buf (Elt F) ℓ) (ρ : Dev nD → PrngReg)

/-! ## The launch element of the ghost state -/

/-- The ghost state at the launch: the handshakes' cells with their tokens, and no counters. -/
def u₀ : UU := (initOf (K (F := F)).hsCells (K (F := F)).hsToks, 1)

/-- Any number of empty assertions is the empty assertion. -/
theorem bigSep_emp' {I : Type} (s : Finset I) : (bigSep s fun _ => iprop(emp)) = (iprop(emp) : sProp 𝕄) := bigSep_emp_const s

/-- The ghost state at the launch gives the handshakes their part; the devices and the threads need nothing of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

/-- The arrays of the program. -/
def SA : Finset (DevRef τ sig) := (Finset.univ.filter fun b : Ref sig .tc => ¬ b.isScoped).image tc'
/-- An array that outlives every call is one of the program's. -/
theorem mem_SA {r : Ref sig .tc} (h : ¬ r.isScoped) : tc' r ∈ SA :=
  Finset.mem_image_of_mem _ (Finset.mem_filter.mpr ⟨Finset.mem_univ _, h⟩)
/-- So are two of them. -/
theorem pair_SA {x y : Ref sig .tc} (hx : ¬ x.isScoped) (hy : ¬ y.isScoped) : ({tc' x, tc' y} : Finset (DevRef τ sig)) ⊆ SA :=
  Finset.insert_subset (mem_SA hx) (Finset.singleton_subset_iff.mpr (mem_SA hy))
/-- The arrays the call is given. -/
abbrev SC5 : Finset (DevRef τ sig) := {tc' main_v1, tc' main_arg1, tc' main_v3, tc' main_v5, tc' main_v6}
/-- The arguments and the result. -/
abbrev SF : Finset (DevRef τ sig) := {tc' main_arg0, tc' main_arg1, tc' main_arg2, tc' main_arg3, tc' main_v8}

/-- The first reshape touches arrays of the program only; likewise each operation below. -/
theorem op0_sub : (op0 (F := F)).bufs ⊆ SA := pair_SA (x := main_arg0) (y := main_v0) (by decide) (by decide)
/-- The transpose of the tokens. -/
theorem op1_sub : (op1 (F := F)).bufs ⊆ SA := pair_SA (x := main_v0) (y := main_v1) (by decide) (by decide)
/-- The reshape of the means. -/
theorem op2_sub : (op2 (F := F)).bufs ⊆ SA := pair_SA (x := main_arg2) (y := main_v2) (by decide) (by decide)
/-- The transpose of the means. -/
theorem op3_sub : (op3 (F := F)).bufs ⊆ SA := pair_SA (x := main_v2) (y := main_v3) (by decide) (by decide)
/-- The reshape of the deviations. -/
theorem op4_sub : (op4 (F := F)).bufs ⊆ SA := pair_SA (x := main_arg3) (y := main_v4) (by decide) (by decide)
/-- The transpose of the deviations. -/
theorem op5_sub : (op5 (F := F)).bufs ⊆ SA := pair_SA (x := main_v4) (y := main_v5) (by decide) (by decide)
/-- The transpose of the result. -/
theorem op7_sub : (op7 (F := F)).bufs ⊆ SA := pair_SA (x := main_v6) (y := main_v7) (by decide) (by decide)
/-- The reshape of the result. -/
theorem op8_sub : (op8 (F := F)).bufs ⊆ SA := pair_SA (x := main_v7) (y := main_v8) (by decide) (by decide)
/-- The arrays that the call is given are the program's. -/
theorem SC5_sub : SC5 ⊆ SA :=
  Finset.insert_subset (mem_SA (by decide)) (Finset.insert_subset (mem_SA (by decide)) (Finset.insert_subset (mem_SA (by decide))
    (pair_SA (by decide) (by decide))))
/-- The arguments and the result are the program's. -/
theorem SF_sub : SF ⊆ SA :=
  Finset.insert_subset (mem_SA (by decide)) (Finset.insert_subset (mem_SA (by decide)) (Finset.insert_subset (mem_SA (by decide))
    (pair_SA (by decide) (by decide))))

/-- What the TensorCore owns at the launch is the program's arrays at their launch contents. -/
theorem unscoped_held (d : Dev nD) : (unscopedBufs d (fun b => m ((SparseCore.T d).loc b)) : sProp 𝕄) = held (T d) SA (V0 m d) := by
  unfold unscopedBufs held SA
  exact (SparseCore.bigSep_image_of_injOn (f := tc') (s := Finset.univ.filter fun b : Ref sig .tc => ¬ b.isScoped) (fun a _ b _ h => Proc.devRef_injective _ h)
    (fun b => ((d, b) : Loc nD τ sig) ↦{fullShare} V0 m d b)).symm

/-- Holding the call's five arrays is holding each of them. -/
theorem held_SC5 (d : Dev nD) (W : Valuation τ sig (Elt F)) :
    (held (T d) SC5 W : sProp 𝕄) = iprop((xLoc d ↦{fullShare} W (tc' main_v1)) ∗ (pLoc d ↦{fullShare} W (tc' main_arg1))
      ∗ (mLoc d ↦{fullShare} W (tc' main_v3)) ∗ (sLoc d ↦{fullShare} W (tc' main_v5)) ∗ (oLoc d ↦{fullShare} W (tc' main_v6))) := by
  unfold held SC5
  rw [SparseCore.bigSep_insert' (by decide), SparseCore.bigSep_insert' (by decide), SparseCore.bigSep_insert' (by decide),
    SparseCore.bigSep_insert' (by decide), bigSep_singleton]

/-- The contents when the call has ended. -/
def V6' (d : Dev nD) : Valuation τ sig (Elt F) := Function.update (V6 m d) (tc' main_v6) (out m d)
/-- The contents at the end. -/
def V8 (d : Dev nD) : Valuation τ sig (Elt F) := op8.result (op7.result (V6' m d))

/-- The call changes no array but its result. -/
theorem V6'_ne (d : Dev nD) {b : DevRef τ sig} (h : b ≠ tc' main_v6) : V6' m d b = V6 m d b := Function.update_of_ne h _ _
/-- The call's result is `out`. -/
theorem V6'_o (d : Dev nD) : V6' m d (tc' main_v6) = out m d := Function.update_self _ _ _

/-- The operations before the call leave its result's array as it was at the launch. -/
theorem V6_o (d : Dev nD) : V6 m d (tc' main_v6) = m (oLoc d) := by
  unfold V6
  rw [StableHlo.unary_result_ne _ _ _ _ _ _ (by decide), StableHlo.reshape_result_ne _ _ _ _ _ _ _ (by decide),
    StableHlo.unary_result_ne _ _ _ _ _ _ (by decide), StableHlo.reshape_result_ne _ _ _ _ _ _ _ (by decide),
    StableHlo.unary_result_ne _ _ _ _ _ _ (by decide), StableHlo.reshape_result_ne _ _ _ _ _ _ _ (by decide)]
  rfl

/-- The program writes none of its arguments. -/
theorem V8_arg (d : Dev nD) (r : Ref sig .tc) (h : r ∉ ({main_v0, main_v1, main_v2, main_v3, main_v4, main_v5, main_v6, main_v7, main_v8} : Finset (Ref sig .tc))) :
    V8 m d (tc' r) = m ((SparseCore.T d).loc r) := by
  simp only [Finset.mem_insert, Finset.mem_singleton, not_or] at h
  obtain ⟨h0, h1, h2, h3, h4, h5, h6, h7, h8⟩ := h
  unfold V8
  rw [StableHlo.reshape_result_ne _ _ _ _ _ _ _ h8, StableHlo.unary_result_ne _ _ _ _ _ _ h7,
    V6'_ne m d (fun e => h6 (Proc.devRef_injective _ e))]
  unfold V6
  rw [StableHlo.unary_result_ne _ _ _ _ _ _ h5, StableHlo.reshape_result_ne _ _ _ _ _ _ _ h4,
    StableHlo.unary_result_ne _ _ _ _ _ _ h3, StableHlo.reshape_result_ne _ _ _ _ _ _ _ h2,
    StableHlo.unary_result_ne _ _ _ _ _ _ h1, StableHlo.reshape_result_ne _ _ _ _ _ _ _ h0]
  rfl

/-- Where the program's result lies. -/
abbrev rLoc (d : Dev nD) : Loc nD τ sig := (SparseCore.T d).loc main_v8
/-- The program's result. -/
def result (d : Dev nD) : Buf (Elt F) (rLoc d) := V8 m d (tc' main_v8)

/-- What the program leaves the claim: the arguments as they were, the result at its value. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ (rLoc d ↦{fullShare} result m d))

/-- The arguments and the result, held at the end, are what the claim is left. -/
theorem held_SF (d : Dev nD) : (held (T d) SF (V8 m d) : sProp 𝕄) = FIN m d := by
  unfold held SF
  rw [SparseCore.bigSep_insert' (by decide), SparseCore.bigSep_insert' (by decide), SparseCore.bigSep_insert' (by decide),
    SparseCore.bigSep_insert' (by decide), bigSep_singleton, V8_arg m d main_arg0 (by decide), V8_arg m d main_arg1 (by decide),
    V8_arg m d main_arg2 (by decide), V8_arg m d main_arg3 (by decide)]
  rfl

/-- The call changes none of the arrays that it is not given. -/
theorem held_rest (d : Dev nD) : (held (T d) (SA \ SC5) (V6 m d) : sProp 𝕄) = held (T d) (SA \ SC5) (V6' m d) :=
  bigSep_congr fun b hb => by
    rw [V6'_ne m d (fun e => (Finset.mem_sdiff.mp hb).2 (by rw [e]; decide))]

/-- The call's five arrays when it starts. -/
theorem held_before (d : Dev nD) : (held (T d) SC5 (V6 m d) : sProp 𝕄)
    = iprop((xLoc d ↦{fullShare} X m d) ∗ (pLoc d ↦{fullShare} PT m d) ∗ (mLoc d ↦{fullShare} M m d) ∗ (sLoc d ↦{fullShare} SD m d)
        ∗ (oLoc d ↦{fullShare} m (oLoc d))) := by
  rw [held_SC5, V6_o]

/-- The call's five arrays when it has ended. -/
theorem held_after (d : Dev nD) : (held (T d) SC5 (V6' m d) : sProp 𝕄)
    = iprop((xLoc d ↦{fullShare} X m d) ∗ (pLoc d ↦{fullShare} PT m d) ∗ (mLoc d ↦{fullShare} M m d) ∗ (sLoc d ↦{fullShare} SD m d)
        ∗ (oLoc d ↦{fullShare} out m d)) := by
  rw [held_SC5, V6'_o, V6'_ne m d (by decide), V6'_ne m d (by decide), V6'_ne m d (by decide), V6'_ne m d (by decide)]

/-- The program on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := SA) op0_sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := SA) op1_sub) $$ [Hb Hheld]
  · isplitl [Hb]; · iexact Hb
    iexact Hheld
  iintro ⟨Hb, Hheld⟩
  rw [wp_ret]; imodintro
  iapply (wp_hlo_within 𝒱 (SparseCore.T d) none Set.univ (op := op2) (S := SA) op2_sub) $$ [Hb Hheld]
  · isplitl [Hb]; · iexact Hb
    iexact Hheld
  iintro ⟨Hb, Hheld⟩
  rw [wp_ret]; imodintro
  iapply (wp_hlo_within 𝒱 (SparseCore.T d) none Set.univ (op := op3) (S := SA) op3_sub) $$ [Hb Hheld]
  · isplitl [Hb]; · iexact Hb
    iexact Hheld
  iintro ⟨Hb, Hheld⟩
  rw [wp_ret]; imodintro
  iapply (wp_hlo_within 𝒱 (SparseCore.T d) none Set.univ (op := op4) (S := SA) op4_sub) $$ [Hb Hheld]
  · isplitl [Hb]; · iexact Hb
    iexact Hheld
  iintro ⟨Hb, Hheld⟩
  rw [wp_ret]; imodintro
  iapply (wp_hlo_within 𝒱 (SparseCore.T d) none Set.univ (op := op5) (S := SA) op5_sub) $$ [Hb Hheld]
  · isplitl [Hb]; · iexact Hb
    iexact Hheld
  iintro ⟨Hb, Hheld⟩
  rw [wp_ret]; imodintro
  ihave Hheld' := (Entails.of_eq (show (held (T d) SA (op5.result (op4.result (op3.result (op2.result (op1.result (op0.result (V0 m d))))))) : sProp 𝕄)
    = iprop(held (T d) SC5 (V6 m d) ∗ held (T d) (SA \ SC5) (V6 m d)) from held_sub_split (T d) SC5_sub (V6 m d))) $$ Hheld
  icases Hheld' with ⟨H5, Hrest⟩
  ihave H5' := (Entails.of_eq (held_before m d)) $$ H5
  iapply ((K (F := F)).wp_run (D (F := F)) 𝒱 (EH := EH) (P := P m) κ d 0) $$ [Hst H5' Hb Hrest Hts]
  isplitr; · iexact Hctx
  isplitl [Hst]; · iexact Hst
  isplitl [H5']
  · rw [st0_eq]; iexact H5'
  iintro ⟨Hst, Hdn⟩
  ihave H5 := (Entails.of_eq (dn0_eq m d)) $$ Hdn
  ihave Hheld := (Entails.of_eq (show (iprop(held (T d) SC5 (V6' m d) ∗ held (T d) (SA \ SC5) (V6' m d)) : sProp 𝕄) = held (T d) SA (V6' m d) from
    (held_sub_split (T d) SC5_sub (V6' m d)).symm)) $$ [H5 Hrest]
  · isplitl [H5]
    · iapply (Entails.of_eq (held_after m d).symm); iexact H5
    · iapply (Entails.of_eq (held_rest m d)); iexact Hrest
  iapply (wp_hlo_within 𝒱 (SparseCore.T d) none Set.univ (op := op7) (S := SA) op7_sub) $$ [Hb Hheld]
  · isplitl [Hb]; · iexact Hb
    iexact Hheld
  iintro ⟨Hb, Hheld⟩
  rw [wp_ret]; imodintro
  iapply (wp_hlo_within 𝒱 (SparseCore.T d) none Set.univ (op := op8) (S := SA) op8_sub) $$ [Hb Hheld]
  · isplitl [Hb]; · iexact Hb
    iexact Hheld
  iintro ⟨Hb, Hheld⟩
  ihave Hheld' := (Entails.of_eq (show (held (T d) SA (op8.result (op7.result (V6' m d))) : sProp 𝕄)
    = iprop(FIN m d ∗ held (T d) (SA \ SF) (V8 m d)) from (held_sub_split (T d) SF_sub (V8 m d)).trans (by rw [held_SF]))) $$ Hheld
  icases Hheld' with ⟨HF, -⟩
  rw [wp_ret]; imodintro; imodintro
  isplitl [Hst]; · iexact Hst
  isplitl [HF]; · iexact HF
  isplitl [Hb] <;> iassumption

/-- What the final state satisfies on device `d`. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem (rLoc d) = result m d

/-- An array held whole is what the state holds. -/
theorem agree {ℓ : Loc nD τ sig} (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun (i : Idx ℓ) => h i (by simp)
  · iexact HSI

/-- A state in which the claim's part is held has the arguments as they were and the result at its value. -/
theorem hfin (d : Dev nD) (s' : Phys nD τ sig (Elt F)) : iprop(FIN m d ∗ SI s') ⊢ (⌜fq m d s'⌝ : sProp 𝕄) := by
  iintro ⟨⟨H0, H1, H2, H3, H8⟩, HSI⟩
  ihave H := (agree _ s') $$ [HSI H0]
  · isplitl [HSI] <;> iassumption
  icases H with ⟨%h0, HSI⟩
  ihave H := (agree _ s') $$ [HSI H1]
  · isplitl [HSI] <;> iassumption
  icases H with ⟨%h1, HSI⟩
  ihave H := (agree _ s') $$ [HSI H2]
  · isplitl [HSI] <;> iassumption
  icases H with ⟨%h2, HSI⟩
  ihave H := (agree _ s') $$ [HSI H3]
  · isplitl [HSI] <;> iassumption
  icases H with ⟨%h3, HSI⟩
  ihave H := (agree _ s') $$ [HSI H8]
  · isplitl [HSI] <;> iassumption
  icases H with ⟨%h8, -⟩
  ipureintro
  exact ⟨h0, h1, h2, h3, h8⟩

/-! ## The run -/

/-- What holds at the end of the run. -/
def QC : PUnit × MemSt nD τ sig (Elt F) → Prop := fun r => (∀ c : Dev nD,
  r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem (rLoc c) = result m c) ∧ r.2.sem = fun _ => 0

/-- Every execution ends, with the arguments as they were, the result at `result` and the semaphores at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Proof

end
-- ==== Proof.Order.lean ====
/-
  What the precondition says: the offsets start at 0, end at 32768 and never decrease.

  `Sorted` states it of the offsets read as numbers, and `sorted_of_pre` reads it off the printed precondition. Under it
  every position below 32768 lies in exactly one segment, and the kernel's sixteen conditional steps amount to one.
-/
module

public import proofs.«01_k».proof.Proof.Tile
public import proofs.«01_k».proof.Proof.Gen.Pre_bounds
public import Idealize.ShloMosaic.Lib.ReduceAll

@[expose] public section

set_option maxRecDepth 16384

noncomputable section

namespace Cert.Proof

open Cert.KernelIdeal Cert.KernelIdeal.Gen
open Idealize.ShloMosaic
open Idealize.ShloMosaic.Tactic

variable {F : FTy → Type} [FloatOps F]

/-- The offsets `p` start at 0, end at 32768 and never decrease, and no word of them is negative. -/
structure Sorted (p : S17.Idx → BitVec 32) : Prop where
  zero : bnd p 0 = 0
  last : bnd p 16 = 32768
  mono : ∀ i, i < 16 → bnd p i ≤ bnd p (i + 1)

/-- Offsets that never decrease, over any number of steps. -/
theorem Sorted.le {p : S17.Idx → BitVec 32} (h : Sorted p) {i j : ℕ} (hij : i ≤ j) (hj : j ≤ 16) : bnd p i ≤ bnd p j := by
  induction j with
  | zero => rw [Nat.le_zero.1 hij]
  | succ j ih =>
    rcases Nat.lt_or_ge i (j + 1) with hl | hl
    · exact (ih (by omega) (by omega)).trans (h.mono j (by omega))
    · rw [show i = j + 1 by omega]

/-- No offset exceeds 32768. -/
theorem Sorted.le_last {p : S17.Idx → BitVec 32} (h : Sorted p) {i : ℕ} (hi : i ≤ 16) : bnd p i ≤ 32768 :=
  (h.le hi le_rfl).trans h.last.le

/-- The printed precondition gives `Sorted`. -/
theorem sorted_of_pre (x0 : FVec F S32768x4 .f32) (p : IVec S17 32) (x2 x3 : FVec F S32768x4 .f32)
    (h : Cert.Pre_bounds.fn (F := F) x0 p x2 x3 = fun _ => 1#1) : Sorted p := by
  have h0 := congrFun h (fun a => a.elim0)
  dsimp only [Cert.Pre_bounds.fn] at h0
  obtain ⟨h1, h2⟩ := IntOp.andi_eq_one.1 h0
  obtain ⟨h3, h4⟩ := IntOp.andi_eq_one.1 h1
  have e0 : p (ix1 (n0 := 17) 0) = 0#32 := by
    have := IntOp.cmpi_eq.1 h3
    pointwise at this
    exact this
  have e16 : p (ix1 (n0 := 17) 16) = 32768#32 := by
    have := IntOp.cmpi_eq.1 h4
    pointwise at this
    exact this
  have hs : ∀ i : Fin 16, (p (ix1 (n0 := 17) ⟨i.val, by omega⟩)).toInt ≤ (p (ix1 (n0 := 17) ⟨i.val + 1, by omega⟩)).toInt := by
    intro i
    have : Subsingleton S_.Idx := ⟨fun a b => funext fun q => q.elim0⟩
    have := IntOp.cmpi_sle.1 (Host.reduce_andi_all _ _ _ _ _ h2 (ix1 i))
    pointwise at this
    simpa only [Nat.add_comm 1] using this
  -- no word is negative: the first is 0 and none is below the one before it
  let t : ℕ → ℤ := fun i => (p (ix1 (n0 := 17) ⟨min i 16, by omega⟩)).toInt
  have ht : ∀ i, i < 16 → t i ≤ t (i + 1) := fun i hi => by
    have := hs ⟨i, hi⟩
    show (p (ix1 (n0 := 17) ⟨min i 16, _⟩)).toInt ≤ (p (ix1 (n0 := 17) ⟨min (i + 1) 16, _⟩)).toInt
    simpa only [Nat.min_eq_left hi.le, Nat.min_eq_left (Nat.succ_le_of_lt hi)] using this
  have h0 : t 0 = 0 := by show (p (ix1 (n0 := 17) 0)).toInt = 0; rw [e0]; rfl
  have hpos : ∀ i, i ≤ 16 → 0 ≤ t i := by
    intro i
    induction i with
    | zero => intro _; exact h0.ge
    | succ i ih => intro hi; exact (ih (by omega)).trans (ht i (by omega))
  have hb : ∀ i, i ≤ 16 → (bnd p i : ℤ) = t i := fun i hi =>
    (BitVec.toInt_eq_toNat_of_lt (by
      have h := hpos i hi
      have := BitVec.toInt_eq_toNat_cond (p (ix1 (n0 := 17) ⟨min i 16, by omega⟩))
      change t i = _ at this
      have := (p (ix1 (n0 := 17) ⟨min i 16, by omega⟩)).isLt
      split at * <;> omega)).symm
  refine ⟨?_, ?_, fun i hi => ?_⟩
  · show (p (ix1 (n0 := 17) 0)).toNat = 0; rw [e0]; rfl
  · show (p (ix1 (n0 := 17) 16)).toNat = 32768; rw [e16]; rfl
  · have h1 := hb i (by omega)
    have h2 := hb (i + 1) (by omega)
    have := ht i hi
    omega

/-- The position `n` lies in segment `s`. -/
structure InSeg (p : S17.Idx → BitVec 32) (n s : ℕ) : Prop where
  lt : s < 16
  lo : bnd p s ≤ n
  hi : n < bnd p (s + 1)

/-- Under sorted offsets the sixteen conditional steps at a position are the one step of its segment. -/
theorem fold_inSeg {p : S17.Idx → BitVec 32} (h : Sorted p) (M S : S256x4x128.Idx → F .f32) {n s : ℕ} (hs : InSeg p n s)
    (j : Fin 4) (x : F .f32) (k : ℕ) (hk : k ≤ 16) :
    fold p M S n j x k = if s < k then nrm x (tab M j (n - bnd p s)) (tab S j (n - bnd p s)) else x := by
  induction k with
  | zero => rfl
  | succ k ih =>
    have hlo := hs.lo
    have hhi := hs.hi
    have hlt := hs.lt
    rw [fold, ih (by omega)]
    rcases Nat.lt_trichotomy s k with hl | rfl | hl
    · have := h.le (i := s + 1) (j := k) hl (by omega)
      rw [if_neg (by omega), if_pos hl, if_pos (by omega)]
    · rw [if_pos ⟨hlo, hhi⟩, if_neg (by omega), if_pos (by omega)]
    · have := h.le (i := k + 1) (j := s) hl (by omega)
      rw [if_neg (by omega), if_neg (by omega), if_neg (by omega)]

/-- The number of segments among the first `k` that start at or before `n`. -/
def starts (p : S17.Idx → BitVec 32) (n k : ℕ) : ℕ := Nat.count (fun i => bnd p i ≤ n) k

/-- Sorted offsets: position `n` lies in the last of the segments that start at or before it. -/
theorem inSeg_starts {p : S17.Idx → BitVec 32} (h : Sorted p) {n : ℕ} (hn : n < 32768) : InSeg p n (starts p n 16 - 1) := by
  have key : ∀ k, k ≤ 16 → (starts p n k = k ∧ (∀ i, i < k → bnd p i ≤ n)) ∨
      (starts p n k < k ∧ 0 < starts p n k ∧ bnd p (starts p n k - 1) ≤ n ∧ n < bnd p (starts p n k)) := by
    intro k
    induction k with
    | zero => intro _; exact Or.inl ⟨rfl, fun i hi => absurd hi (Nat.not_lt_zero i)⟩
    | succ k ih =>
      intro hk
      have hc : starts p n (k + 1) = starts p n k + if bnd p k ≤ n then 1 else 0 := Nat.count_succ _ k
      rcases ih (by omega) with ⟨h1, h2⟩ | ⟨h1, h2, h3, h4⟩
      · rcases Nat.lt_or_ge n (bnd p k) with hl | hl
        · have hk0 : 0 < k := by
            rcases Nat.eq_zero_or_pos k with rfl | hp
            · rw [h.zero] at hl; omega
            · exact hp
          rw [if_neg (by omega)] at hc
          right
          rw [hc, Nat.add_zero, h1]
          exact ⟨by omega, hk0, h2 (k - 1) (by omega), hl⟩
        · rw [if_pos hl] at hc
          left
          refine ⟨by omega, fun i hi => ?_⟩
          rcases Nat.lt_succ_iff_lt_or_eq.1 hi with hl | rfl
          · exact h2 i hl
          · exact hl
      · have := h.le (i := starts p n k) (j := k) h1.le (by omega)
        rw [if_neg (by omega)] at hc
        right
        rw [hc, Nat.add_zero]
        exact ⟨by omega, h2, h3, h4⟩
  rcases key 16 le_rfl with ⟨h1, h2⟩ | ⟨h1, h2, h3, h4⟩
  · rw [h1]; exact ⟨by omega, h2 15 (by omega), by show n < bnd p 16; rw [h.last]; exact hn⟩
  · exact ⟨by omega, h3, by rw [Nat.sub_add_cancel h2]; exact h4⟩

end Cert.Proof

end
-- ==== Proof.Frames.lean ====
/-
  The frames: the kernel, on words and idealized, and the reference run to the end, change no argument and leave every
  semaphore at zero.
-/
module

public import proofs.«01_k».proof.Proof.Launch
public import proofs.«01_k».proof.Proof.Order
public import proofs.«01_k».proof.Proof.Gen.Kernel
public import proofs.«01_k».proof.Proof.Gen.ReferenceIdeal.Run

@[expose] public section

set_option maxRecDepth 16384

noncomputable section

namespace Cert.Proof

open Idealize.ShloMosaic Idealize.SL.Sem

/-- The precondition of the idealized kernel: sorted offsets on every device. -/
theorem sorted_kernelIdeal (m : (ℓ : Loc Cert.KernelIdeal.nD Cert.KernelIdeal.τ Cert.KernelIdeal.sig) → Buf (Elt Ideal) ℓ)
    (h : Cert.Pre_KernelIdeal m) (d : Dev Cert.KernelIdeal.nD) : Sorted (m (pLoc d)) := sorted_of_pre _ _ _ _ (h d)

/-- Sorted offsets do not exceed 32768, which is what the run asks. -/
theorem ok_of_sorted {F : FTy → Type} [FloatOps F] (m : (ℓ : Loc Cert.KernelIdeal.nD Cert.KernelIdeal.τ Cert.KernelIdeal.sig) → Buf (Elt F) ℓ)
    (h : ∀ d, Sorted (m (pLoc d))) : PreOK m := fun d j => by
  have hj : (j 0).val < 17 := (j 0).isLt
  have := (h d).le_last (i := (j 0).val) (by omega)
  rw [show j = ix1 ⟨min (j 0).val 16, by omega⟩ from funext fun a => by
    match a with
    | ⟨0, _⟩ => exact Fin.ext (by show (j 0).val = min (j 0).val 16; omega)]
  exact this

/-- The idealized kernel's frame. -/
theorem frame_kernelIdeal : Cert.quiescent_KernelIdeal := fun m ρ hpre =>
  (θ_run Cert.KernelIdeal.defs _ _).mono (fun _ h => ⟨fun c => ⟨(h.1 c).1, (h.1 c).2.1, (h.1 c).2.2.1, (h.1 c).2.2.2.1⟩, h.2⟩)
    (run_main m ρ (ok_of_sorted m (sorted_kernelIdeal m hpre)))

/-- The kernel's frame, on words: the same program over words. -/
theorem frame_kernel : Cert.quiescent_Kernel := fun m ρ hpre =>
  (θ_run Cert.KernelIdeal.defs _ _).mono (fun _ h => ⟨fun c => ⟨(h.1 c).1, (h.1 c).2.1, (h.1 c).2.2.1, (h.1 c).2.2.2.1⟩, h.2⟩)
    (run_main (F := Bits) m ρ (ok_of_sorted m fun d => sorted_of_pre (F := Bits) _ _ _ _ (hpre d)))

/-- The reference's frame, from any memory. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame under the precondition. -/
theorem frame_reference_bounds : Cert.quiescent_ReferenceIdeal_pre_bounds := fun m ρ _ => frame_reference m ρ trivial

end Cert.Proof

end
-- ==== Proof.Value.lean ====
/-
  The result of the run, element by element.

  The host stores each [32768, 4] array as [256, 4, 128] before the call and undoes it after. Read through both, element
  `(n, j)` of the result is the token's, less the mean and over the deviation of the token's place in its segment.
-/
module

public import proofs.«01_k».proof.Proof.Launch
public import proofs.«01_k».proof.Proof.Order

@[expose] public section

set_option maxRecDepth 16384

noncomputable section

namespace Cert.Proof

open Cert.KernelIdeal Cert.KernelIdeal.Gen
open Idealize.ShloMosaic
open Idealize.ShloMosaic.Tactic

variable {F : FTy → Type} [FloatOps F]

/-! ## The stored arrays -/

/-- A [32768, 4] array as the call is given it. -/
def stored (a : S32768x4.Idx → F .f32) : S256x4x128.Idx → F .f32 :=
  transpose S256x4x128 [0, 2, 1] (shapeCast S256x128x4 a shapeCasts_S32768x4_S256x128x4) transposes_S256x128x4_S256x4x128_0_2_1

/-- Element `(r, j, l)` of the stored array is element `(128 r + l, j)`. -/
theorem stored_apply (a : S32768x4.Idx → F .f32) (r : Fin 256) (j : Fin 4) (l : Fin 128) :
    stored a (ix3 r j l) = a (ix2 ⟨128 * r.val + l.val, by omega⟩ j) := by
  unfold stored
  rw [transpose_apply _ _ _ (ix3 r j l) (ix3 r l j) (fun b => by fin_cases b <;> rfl),
    shapeCast_apply _ _ _ (ix2 (n0 := 32768) (n1 := 4) ⟨128 * r.val + l.val, by omega⟩ j) (by
      rw [Shape.rowMajor_val_three, Shape.rowMajor_val_two]
      show (128 * r.val + l.val) * 4 + j.val = (r.val * 128 + l.val) * 4 + j.val
      omega)]

/-- Row `i`, channel `j` of a stored table. -/
theorem tab_stored (a : S32768x4.Idx → F .f32) (j : Fin 4) (i : ℕ) (hi : i < 32768) : tab (stored a) j i = a (ix2 ⟨i, hi⟩ j) := by
  unfold tab
  rw [stored_apply]
  refine congrArg (fun q : Fin 32768 => a (ix2 q j)) (Fin.ext ?_)
  show 128 * (i / 128 % 256) + i % 128 = i
  omega

section Run

variable (m : (ℓ : Loc nD τ sig) → Buf (Elt F) ℓ) (d : Dev nD)

/-- The tokens given to the call. -/
theorem X_eq : X m d = stored (m ((SparseCore.T d).loc main_arg0)) := by
  unfold X V6
  rw [StableHlo.unary_result_ne _ _ _ _ _ _ (by decide), StableHlo.reshape_result_ne _ _ _ _ _ _ _ (by decide),
    StableHlo.unary_result_ne _ _ _ _ _ _ (by decide), StableHlo.reshape_result_ne _ _ _ _ _ _ _ (by decide),
    StableHlo.unary_result', StableHlo.reshape_result']
  rfl

/-- The means given to the call. -/
theorem M_eq : M m d = stored (m ((SparseCore.T d).loc main_arg2)) := by
  unfold M V6
  rw [StableHlo.unary_result_ne _ _ _ _ _ _ (by decide), StableHlo.reshape_result_ne _ _ _ _ _ _ _ (by decide),
    StableHlo.unary_result', StableHlo.reshape_result',
    StableHlo.unary_result_ne _ _ _ _ _ _ (by decide), StableHlo.reshape_result_ne _ _ _ _ _ _ _ (by decide)]
  rfl

/-- The deviations given to the call. -/
theorem SD_eq : SD m d = stored (m ((SparseCore.T d).loc main_arg3)) := by
  unfold SD V6
  rw [StableHlo.unary_result', StableHlo.reshape_result',
    StableHlo.unary_result_ne _ _ _ _ _ _ (by decide), StableHlo.reshape_result_ne _ _ _ _ _ _ _ (by decide),
    StableHlo.unary_result_ne _ _ _ _ _ _ (by decide), StableHlo.reshape_result_ne _ _ _ _ _ _ _ (by decide)]
  rfl

/-- The result is the call's output with the storing undone. -/
theorem result_eq : result m d = shapeCast S32768x4
    (transpose S256x128x4 [0, 2, 1] (out m d) transposes_S256x4x128_S256x128x4_0_2_1) shapeCasts_S256x128x4_S32768x4 := by
  unfold result V8
  rw [StableHlo.reshape_result', StableHlo.unary_result', V6'_o]
  rfl

/-- Element `(n, j)` of the result, for a position `n` of segment `s`. -/
theorem result_apply (h : Sorted (m (pLoc d))) (n : Fin 32768) (j : Fin 4) {s : ℕ} (hs : InSeg (m (pLoc d)) n.val s) :
    result m d (ix2 n j) = nrm (m ((SparseCore.T d).loc main_arg0) (ix2 n j))
      (m ((SparseCore.T d).loc main_arg2) (ix2 ⟨n.val - bnd (m (pLoc d)) s, by omega⟩ j))
      (m ((SparseCore.T d).loc main_arg3) (ix2 ⟨n.val - bnd (m (pLoc d)) s, by omega⟩ j)) := by
  have hn := n.isLt
  rw [result_eq, shapeCast_apply _ _ _ (ix3 (n0 := 256) (n1 := 128) (n2 := 4) ⟨n.val / 128, by omega⟩ ⟨n.val % 128, by omega⟩ j) (by
      rw [Shape.rowMajor_val_three, Shape.rowMajor_val_two]
      show (n.val / 128 * 128 + n.val % 128) * 4 + j.val = n.val * 4 + j.val
      omega),
    transpose_apply _ _ _ _ (ix3 (n0 := 256) (n1 := 4) (n2 := 128) ⟨n.val / 128, by omega⟩ j ⟨n.val % 128, by omega⟩)
      (fun b => by fin_cases b <;> rfl)]
  show fold (PT m d) (M m d) (SD m d) (128 * (n.val / 128) + n.val % 128) j (X m d (ix3 ⟨n.val / 128, _⟩ j ⟨n.val % 128, _⟩)) 16 = _
  rw [show PT m d = m (pLoc d) from V6_p m d, M_eq, SD_eq, X_eq, Nat.div_add_mod, fold_inSeg h _ _ hs j _ 16 le_rfl, if_pos hs.lt,
    tab_stored _ _ _ (by omega), tab_stored _ _ _ (by omega), stored_apply]
  refine congrArg (fun q : Fin 32768 => nrm (m ((SparseCore.T d).loc main_arg0) (ix2 q j)) _ _) (Fin.ext ?_)
  show 128 * (n.val / 128) + n.val % 128 = n.val
  omega

end Run

end Cert.Proof

end
-- ==== Proof.RefValue.lean ====
/-
  The reference's result, element by element.

  The reference repeats each segment's first offset as often as the segment has tokens, takes it from the token's position
  and looks the mean and the deviation up at the difference. The repeating is done with running sums: the start of each
  segment, the number of segments starting at each position, and the running sum of those numbers less one, which is the
  token's segment. Each is read here as a number under sorted offsets, down to the quotient.
-/
module

public import proofs.«01_k».proof.Proof.Order
public import proofs.«01_k».proof.Proof.Gen.ReferenceIdeal
public import proofs.«01_k».proof.Proof.Gen.ReferenceIdeal.Read
public import Idealize.ShloMosaic.Lib.Routing.Ops
public import Idealize.ShloMosaic.Lib.Routing.OpsOne
public import Idealize.ShloMosaic.Lib.Routing.OpsSearch
public import Idealize.ShloMosaic.Lib.Routing.BitFacts

@[expose] public section

set_option maxRecDepth 16384

noncomputable section

namespace Cert.Proof

open Cert.ReferenceIdeal Cert.ReferenceIdeal.Gen Cert.ReferenceIdeal.Read
open Idealize.ShloMosaic hiding ix1 ix2 ix3
open Idealize.ShloMosaic.ValueIdx Idealize.ShloMosaic.Routing

/-! ## Counting -/

/-- The numbers at most `n + 1` are those at most `n` and those equal to `n + 1`. -/
theorem count_le_succ (g : ℕ → ℕ) (n N : ℕ) :
    Nat.count (fun i => g i ≤ n + 1) N = Nat.count (fun i => g i ≤ n) N + Nat.count (fun i => g i = n + 1) N := by
  induction N with
  | zero => rfl
  | succ N ih => rw [Nat.count_succ, Nat.count_succ, Nat.count_succ, ih]; split_ifs <;> omega

/-- Counting each value up to `n` apart and adding up counts the values at most `n`. -/
theorem sum_count_eq (g : ℕ → ℕ) (n N : ℕ) :
    ((List.range (n + 1)).map fun k => Nat.count (fun i => g i = k) N).sum = Nat.count (fun i => g i ≤ n) N := by
  induction n with
  | zero =>
    rw [List.range_one, List.map_singleton, List.sum_singleton]
    induction N with
    | zero => rfl
    | succ N ih => rw [Nat.count_succ, Nat.count_succ, ih]; split_ifs <;> omega
  | succ n ih => rw [List.range_succ, List.map_append, List.sum_append, ih, List.map_singleton, List.sum_singleton, count_le_succ]

/-- Adding one for each element of a list that meets a condition counts them. -/
theorem foldl_add_one {ι : Type} (l : List ι) (P : ι → Prop) [DecidablePred P] (c : ℕ) :
    l.foldl (fun a n => if P n then IntOp.addi a 1#32 else a) (BitVec.ofNat 32 c) = BitVec.ofNat 32 (c + l.countP fun n => decide (P n)) := by
  induction l generalizing c with
  | nil => rfl
  | cons n l ih =>
    rw [List.foldl_cons, List.countP_cons]
    by_cases h : P n
    · rw [if_pos h, show IntOp.addi (BitVec.ofNat 32 c) 1#32 = BitVec.ofNat 32 (c + 1) from (BitVec.ofNat_add c 1).symm, ih, if_pos (decide_eq_true h)]
      congr 1; omega
    · rw [if_neg h, ih, if_neg fun q => h (of_decide_eq_true q), Nat.add_zero]

/-! ## A scatter of one word per update into a vector -/

/-- Update `i` of `K` scalars scattered into a vector of `N`, one index word each, lands at `x` exactly when its word, read
    signed, is `x`. -/
theorem lands_column {N K : ℕ} (d : ScatterDims (shape1 N) (shape2 K 1) (shape1 K)) (hiw : d.insertedWindowDims = [0])
    (hsd : d.scatterDimsToOperandDims = [0]) (hivd : d.indexVectorDim = 1) (idx : IVec (shape2 K 1) 32) (i : Fin K) (x : Fin N) :
    d.resultIdx? (ix1 i) idx = some (ix1 x) ↔ (idx (ix2 i (0 : Fin 1))).toInt = (x.val : ℤ) := by
  have hm : (0 : Fin 1) ∈ d.scatterDimsToOperandDims := by rw [hsd]; exact List.mem_singleton.2 rfl
  have hw : d.window (ix1 i) 0 = 0 := by
    unfold ScatterDims.window
    exact dif_neg fun h => (of_decide_eq_true (List.mem_filter.1 h).2) (by rw [hiw]; exact List.mem_singleton.2 rfl)
  have hi : d.siIdx (ix1 i) ⟨d.scatterDimsToOperandDims.idxOf 0, List.idxOf_lt_length_iff.2 hm⟩ = ix2 i (0 : Fin 1) := by
    refine (ValueIdx.eq_ix2 _).trans ?_
    congr 1
    · unfold ScatterDims.siIdx
      rw [dif_neg (by rw [hivd]; exact Nat.zero_ne_one)]
      unfold ScatterDims.siCoord
      refine Fin.ext ?_
      have e : ∀ X : Fin 1, (ix1 i X).val = i.val := fun X => by rw [Fin.fin_one_eq_zero X]
      exact e _
    · exact Subsingleton.elim (α := Fin 1) _ _
  rw [resultIdx?_ix1, hw]
  unfold ScatterDims.start
  rw [dif_pos hm, hi]
  simp

/-- `zeros.at[idx].add(1)`: entry `x` of the result is the number of the `K` indices that are `x`; an index past the end is
    dropped. -/
theorem scatter_count {N K : ℕ} (d : ScatterDims (shape1 N) (shape2 K 1) (shape1 K)) (hiw : d.insertedWindowDims = [0])
    (hsd : d.scatterDimsToOperandDims = [0]) (hivd : d.indexVectorDim = 1) (x0 : IVec (shape1 N) 32) (hx0 : ∀ i, x0 i = 0#32)
    (idx : IVec (shape2 K 1) 32) (upd : IVec (shape1 K) 32) (hu : ∀ i, upd i = 1#32) (g : ℕ → ℕ)
    (hg : ∀ i : Fin K, idx (ix2 i (0 : Fin 1)) = BitVec.ofNat 32 (g i.val)) (hlt : ∀ i : Fin K, g i.val < 2 ^ 31) (x : Fin N) :
    Host.scatter d IntOp.addi x0 idx upd (ix1 x) = BitVec.ofNat 32 (Nat.count (fun i => g i = x.val) K) := by
  have hl : ∀ n : Fin (shape1 K).numel, d.resultIdx? ((shape1 K).rowMajor.symm n) idx = some (ix1 x) ↔ g n.val = x.val := fun n => by
    rw [symm1, lands_column d hiw hsd hivd, hg, StableHlo.Predicate.toInt_ofNat_small _ (hlt _)]
    exact Int.ofNat_inj
  rw [scatter_at, hx0]
  simp only [hu, hl]
  exact (foldl_add_one _ (fun n : Fin (shape1 K).numel => g n.val = x.val) 0).trans (by
    rw [Nat.zero_add, countP_finRange _ (fun i => g i = x.val), numel1])

/-! ## The reference's words -/

section Ref

variable {F : FTy → Type} [FloatOps F] {p : S17.Idx → BitVec 32}

/-- A word of the offsets holds the number. -/
theorem word_bnd (p : S17.Idx → BitVec 32) (i : Fin 17) : p (ix1 i) = BitVec.ofNat 32 (bnd p i.val) := by
  unfold bnd
  rw [BitVec.ofNat_toNat, BitVec.setWidth_eq]
  exact congrArg (fun q : Fin 17 => p (ix1 q)) (Fin.ext (by show i.val = min i.val 16; omega))

/-- A one-coordinate index is given by its coordinate. -/
theorem eq_of_coord {n : ℕ} {i : (shape1 n).Idx} {k : Fin n} (h : (i 0).val = k.val) : i = ix1 k :=
  (ValueIdx.eq_ix1 i).trans (congrArg ix1 (Fin.ext h))

/-- The length of segment `i`. -/
theorem v1_word (h : Sorted p) (i : Fin 16) : val_main_v1 (F := F) p (ix1 i) = BitVec.ofNat 32 (bnd p (i.val + 1) - bnd p i.val) := by
  rw [val_main_v1_apply, val_main_call0_v0_apply, val_main_call0_v1_apply,
    eq_of_coord (i := idx_main_call0_v0 (ix1 i)) (k := (⟨i.val + 1, by omega⟩ : Fin 17)) (Nat.add_comm 1 i.val),
    eq_of_coord (i := idx_main_call0_v1 (ix1 i)) (k := (⟨i.val, by omega⟩ : Fin 17)) rfl, word_bnd p, word_bnd p]
  exact ofNat32_sub (h.mono i.val i.isLt)

/-- After the first, the rolled lengths are the lengths one place on. -/
theorem v2_word (h : Sorted p) (i : Fin 15) :
    val_main_v2 (F := F) p (ix1 ⟨i.val + 1, by omega⟩) = BitVec.ofNat 32 (bnd p (i.val + 1) - bnd p i.val) := by
  unfold val_main_v2
  rw [concatenate_pair_apply_right (t := S16) (s₁ := S1) (s₂ := S15) _ _ _ _ _ rfl rfl (ix1 i) (fun b hb => absurd (Subsingleton.elim (α := Fin 1) _ _) hb) rfl,
    val_main_call1_v1_apply, eq_of_coord (i := idx_main_call1_v1 (ix1 i)) (k := (⟨i.val, by omega⟩ : Fin 16)) rfl, v1_word h]

/-- The lengths one place on, with nothing at the first place. -/
def step (p : S17.Idx → BitVec 32) (i : ℕ) : ℕ := if i = 0 then 0 else bnd p i - bnd p (i - 1)

/-- The lengths one place on, as the reference makes them by rolling and overwriting the first. -/
theorem v4_word (h : Sorted p) (i : Fin 16) : val_main_v4 (F := F) p (ix1 i) = BitVec.ofNat 32 (step p i.val) := by
  unfold val_main_v4
  rw [scatter_one _ rfl rfl _ _ _ (0 : Fin 16) (by decide) (by rw [val_main_v3_apply, val_main_c_apply]; rfl)]
  unfold step
  obtain ⟨i, hi⟩ := i
  cases i with
  | zero => rw [if_pos rfl]; exact (if_pos rfl).trans (val_main_c_0_apply _)
  | succ i => rw [if_neg (fun q => absurd (congrArg Fin.val q) (Nat.succ_ne_zero i)), if_neg (Nat.succ_ne_zero i), v2_word h ⟨i, by omega⟩, Nat.add_sub_cancel]

/-- The lengths before segment `i` add up to its start. -/
theorem sum_step (h : Sorted p) (i : ℕ) (hi : i ≤ 16) : ((List.range (i + 1)).map (step p)).sum = bnd p i := by
  induction i with
  | zero => rw [h.zero]; rfl
  | succ i ih =>
    rw [List.range_succ, List.map_append, List.sum_append, ih (by omega), List.map_singleton, List.sum_singleton, step,
      if_neg (Nat.succ_ne_zero i), Nat.add_sub_cancel]
    have := h.mono i (by omega)
    omega

/-- Their running sums are the segments' starts. -/
theorem v5_word (h : Sorted p) (i : Fin 16) : val_main_v5 (F := F) p (ix1 i) = BitVec.ofNat 32 (bnd p i.val) := by
  unfold val_main_v5
  rw [cumsum1 (N := 16) (Nm1 := 15) rfl _ (step p) (v4_word h) _ (by rw [val_main_call2_call0_v0_apply, val_main_call2_call0_c_apply]),
    sum_step h _ (by omega)]

/-- A number below 2³¹ is not negative as a word, so an index wrapped where negative is left alone. -/
theorem wrap_word {k : ℕ} (hk : k < 2 ^ 31) (a : BitVec 32) :
    Scalar.select (IntOp.cmpi .slt (BitVec.ofNat 32 k) 0#32) a (BitVec.ofNat 32 k) = BitVec.ofNat 32 k :=
  wrap_of_lt _ _ (by rw [BitVec.toNat_ofNat]; omega)

/-- The indices at which a one is added for each segment are the segments' starts. -/
theorem v12_word (h : Sorted p) (i : Fin 16) : val_main_v12 (F := F) p (ix2 i (0 : Fin 1)) = BitVec.ofNat 32 (bnd p i.val) := by
  have := h.le_last (i := i.val) (by omega)
  rw [val_main_v12_apply, eq_of_coord (i := idx_main_v12 (ix2 i (0 : Fin 1))) (k := i) rfl, val_main_v11_apply, val_main_v8_apply,
    val_main_v7_apply, val_main_c_2_apply, v5_word h, wrap_word (by omega)]

/-- The number of segments that start at position `n`. -/
theorem v14_word (h : Sorted p) (n : Fin 32768) :
    val_main_v14 (F := F) p (ix1 n) = BitVec.ofNat 32 (Nat.count (fun i => bnd p i = n.val) 16) := by
  unfold val_main_v14
  exact scatter_count _ rfl rfl rfl _ (fun i => by rw [val_main_v6_apply, val_main_c_1_apply]) _ _
    (fun i => by rw [val_main_v13_apply, val_main_c_4_apply]) (bnd p) (v12_word h)
    (fun i => by have := h.le_last (i := i.val) (by omega); omega) n

/-- The number of segments that start at or before `n`. -/
theorem v15_word (h : Sorted p) (n : Fin 32768) : val_main_v15 (F := F) p (ix1 n) = BitVec.ofNat 32 (starts p n.val 16) := by
  unfold val_main_v15
  rw [cumsum1 (N := 32768) (Nm1 := 32767) rfl _ (fun k => Nat.count (fun i => bnd p i = k) 16) (v14_word h) _
    (by rw [val_main_call3_call0_v0_apply, val_main_call3_call0_c_apply]), sum_count_eq]
  rfl

/-- The segment of position `n`. -/
def segOf (p : S17.Idx → BitVec 32) (n : ℕ) : ℕ := starts p n 16 - 1

/-- The segment that the reference finds for position `n`. -/
theorem v17_word (h : Sorted p) (n : Fin 32768) : val_main_v17 (F := F) p (ix1 n) = BitVec.ofNat 32 (segOf p n.val) := by
  have hpos : 1 ≤ starts p n.val 16 := by
    unfold starts
    rw [Nat.count_succ']
    rw [if_pos (by rw [h.zero]; exact Nat.zero_le _)]
    omega
  rw [val_main_v17_apply, val_main_v16_apply, val_main_c_5_apply, v15_word h]
  exact ofNat32_sub hpos

/-! ## The guarded look-ups -/

/-- The guard of a look-up holds where every index does: between 0 and the last place. -/
theorem guard_word {k K : ℕ} (hk : k ≤ K) (hK : K < 2 ^ 31) :
    IntOp.andi (IntOp.cmpi .sge (BitVec.ofNat 32 k) 0#32) (IntOp.cmpi .sle (BitVec.ofNat 32 k) (BitVec.ofNat 32 K)) = 1#1 := by
  refine IntOp.andi_eq_one.2 ⟨IntOp.cmpi_sge.2 ?_, IntOp.cmpi_sle.2 ?_⟩
  · rw [StableHlo.Predicate.toInt_ofNat_small _ (by omega : k < 2 ^ 31)]; exact Int.natCast_nonneg k
  · rw [StableHlo.Predicate.toInt_ofNat_small _ (by omega), StableHlo.Predicate.toInt_ofNat_small _ hK]; exact Int.ofNat_le.2 hk

/-- It is one of the sixteen. -/
theorem seg_lt (h : Sorted p) (n : Fin 32768) : segOf p n.val < 16 := (inSeg_starts h n.isLt).lt

/-- The indices of the look-up of the starts are the segments. -/
theorem call4_v5_word (h : Sorted p) (i : S32768x1.Idx) : val_main_call4_v5 (F := F) p i = BitVec.ofNat 32 (segOf p (i 0).val) := by
  have : segOf p (i 0).val < 16 := seg_lt h ⟨(i 0).val, (i 0).isLt⟩
  rw [val_main_call4_v5_apply, eq_of_coord (i := idx_main_call4_v5 i) (k := (⟨(i 0).val, (i 0).isLt⟩ : Fin 32768)) rfl, val_main_call4_v4_apply, val_main_call4_v1_apply,
    val_main_call4_v0_apply, val_main_call4_c_apply, v17_word h, wrap_word (show segOf p (i 0).val < 2 ^ 31 by omega)]

/-- The start of the segment of position `n`. -/
theorem v18_word (h : Sorted p) (n : Fin 32768) : val_main_v18 (F := F) p (ix1 n) = BitVec.ofNat 32 (bnd p (segOf p n.val)) := by
  have hs := seg_lt h n
  have hg : val_main_call4_v12 (F := F) p (ix1 n) = 1#1 := by
    unfold val_main_call4_v12
    refine Host.reduce_andi_one _ _ _ _ _ (val_main_call4_c_3_apply _) fun i => ?_
    have : segOf p (i 0).val < 16 := seg_lt h ⟨(i 0).val, (i 0).isLt⟩
    rw [val_main_call4_v11_apply, val_main_call4_v7_apply, val_main_call4_v10_apply, val_main_call4_v6_apply, val_main_call4_c_2_apply,
      val_main_call4_v9_apply, val_main_call4_v8_apply, val_main_call4_c_1_apply, call4_v5_word h]
    exact guard_word (by omega) (by decide)
  rw [val_main_v18_apply, hg]
  show val_main_call4_v13 (F := F) p (ix1 n) = _
  unfold val_main_call4_v13
  rw [take_ap _ rfl rfl rfl rfl _ _ n hs (by omega) (call4_v5_word h _), val_main_v0_apply,
    eq_of_coord (i := idx_main_v0 (ix1 ⟨segOf p n.val, hs⟩)) (k := (⟨segOf p n.val, by omega⟩ : Fin 17)) rfl, word_bnd p]

/-- The place of position `n` in its segment. -/
theorem v20_word (h : Sorted p) (n : Fin 32768) :
    val_main_v20 (F := F) p (ix1 n) = BitVec.ofNat 32 (n.val - bnd p (segOf p n.val)) := by
  rw [val_main_v20_apply, val_main_v19_apply, v18_word h]
  exact ofNat32_sub (inSeg_starts h n.isLt).lo

/-- The indices of the look-up of the means are the places in the segments. -/
theorem call5_v5_word (h : Sorted p) (i : S32768x1.Idx) :
    val_main_call5_v5 (F := F) p i = BitVec.ofNat 32 ((i 0).val - bnd p (segOf p (i 0).val)) := by
  have hi : (i 0).val < 32768 := (i 0).isLt
  rw [val_main_call5_v5_apply, eq_of_coord (i := idx_main_call5_v5 i) (k := (⟨(i 0).val, (i 0).isLt⟩ : Fin 32768)) rfl, val_main_call5_v4_apply, val_main_call5_v1_apply,
    val_main_call5_v0_apply, val_main_call5_c_apply, v20_word h, wrap_word (by omega)]

/-- The second look-up's indices are the first's. -/
theorem call6_v5_eq : val_main_call6_v5 (F := F) p = val_main_call5_v5 (F := F) p := rfl

/-- Each of these lies within the table, so the look-up's guard holds. -/
theorem call5_v12_word (h : Sorted p) (n : S32768.Idx) : val_main_call5_v12 (F := F) p n = 1#1 := by
  unfold val_main_call5_v12
  refine Host.reduce_andi_one _ _ _ _ _ (val_main_call5_c_3_apply _) fun i => ?_
  have hi : (i 0).val < 32768 := (i 0).isLt
  rw [val_main_call5_v11_apply, val_main_call5_v7_apply, val_main_call5_v10_apply, val_main_call5_v6_apply, val_main_call5_c_2_apply,
    val_main_call5_v9_apply, val_main_call5_v8_apply, val_main_call5_c_1_apply, call5_v5_word h]
  exact guard_word (by omega) (by decide)

/-- The second look-up's guard is the first's. -/
theorem call6_v12_eq : val_main_call6_v12 (F := F) p = val_main_call5_v12 (F := F) p := rfl

/-- A row looked up by place in the segment. -/
theorem row_value (h : Sorted p) (a : S32768x4.Idx → F .f32) (n : Fin 32768) (j : Fin 4) :
    val_main_call5_v13 (F := F) p a (ix2 n j) = a (ix2 ⟨n.val - bnd p (segOf p n.val), by omega⟩ j) := by
  unfold val_main_call5_v13
  exact gather_row _ rfl rfl rfl rfl rfl _ _ n j ⟨n.val - bnd p (segOf p n.val), by omega⟩ (call5_v5_word h _) (by decide)

/-- The mean that token `n` is given. -/
theorem v21_value (h : Sorted p) (a : S32768x4.Idx → F .f32) (n : Fin 32768) (j : Fin 4) :
    val_main_v21 (F := F) p a (ix2 n j) = a (ix2 ⟨n.val - bnd p (segOf p n.val), by omega⟩ j) := by
  rw [val_main_v21_apply, val_main_call5_v14_apply, call5_v12_word h]
  exact row_value h a n j

/-- The deviation that token `n` is given. -/
theorem v23_value (h : Sorted p) (a : S32768x4.Idx → F .f32) (n : Fin 32768) (j : Fin 4) :
    val_main_v23 (F := F) p a (ix2 n j) = a (ix2 ⟨n.val - bnd p (segOf p n.val), by omega⟩ j) := by
  rw [val_main_v23_apply, val_main_call6_v14_apply, call6_v12_eq, call5_v12_word h]
  exact row_value h a n j

end Ref

/-- The reference's result at token `n`, channel `j`. -/
theorem reference_apply {p : S17.Idx → BitVec 32} (h : Sorted p) (x mean std : S32768x4.Idx → Ideal .f32) (n : Fin 32768) (j : Fin 4) :
    val_main_v24 (F := Ideal) x p mean std (ix2 n j) = nrm (F := Ideal) (x (ix2 n j))
      (mean (ix2 ⟨n.val - bnd p (segOf p n.val), by omega⟩ j)) (std (ix2 ⟨n.val - bnd p (segOf p n.val), by omega⟩ j)) := by
  rw [val_main_v24_apply, val_main_v22_apply, v21_value h, v23_value h]
  rfl

end Cert.Proof

end
-- ==== Proof.Equal.lean ====
/-
  The kernel's result is the reference's.
-/
module

public import proofs.«01_k».proof.Proof.Frames
public import proofs.«01_k».proof.Proof.Value
public import proofs.«01_k».proof.Proof.RefValue

@[expose] public section

set_option maxRecDepth 16384

noncomputable section

namespace Cert.Proof

open Idealize.ShloMosaic Idealize.SL.Sem

/-- From sorted offsets the reference's result is the kernel's, element by element: both are the token less the mean, over
    the deviation, at its place in its segment. -/
theorem value_eq (m : (ℓ : Loc Cert.KernelIdeal.nD Cert.KernelIdeal.τ Cert.KernelIdeal.sig) → Buf (Elt Ideal) ℓ)
    (d : Dev Cert.KernelIdeal.nD) (h : Sorted (m (pLoc d))) :
    Cert.ReferenceIdeal.Read.val_main_v24 (F := Ideal) (m ((SparseCore.T d).loc Cert.KernelIdeal.main_arg0)) (m (pLoc d))
      (m ((SparseCore.T d).loc Cert.KernelIdeal.main_arg2)) (m ((SparseCore.T d).loc Cert.KernelIdeal.main_arg3)) = result m d := by
  have e : ∀ (a : Fin 32768) (b : Fin 4), ValueIdx.ix2 a b = ix2 a b := fun a b => eq_ix2 _
  funext i
  have ei : i = ValueIdx.ix2 (⟨(i 0).val, (i 0).isLt⟩ : Fin 32768) (⟨(i 1).val, (i 1).isLt⟩ : Fin 4) := ValueIdx.eq_ix2 i
  rw [ei, reference_apply h, e, e]
  exact (result_apply m d h _ _ (inSeg_starts h (i 0).isLt)).symm

/-- Equal arguments give equal results of the reference. -/
theorem v24_congr {x y : FVec Ideal Cert.ReferenceIdeal.S32768x4 .f32} {p q : IVec Cert.ReferenceIdeal.S17 32}
    {a b c d : FVec Ideal Cert.ReferenceIdeal.S32768x4 .f32} (h0 : x = y) (h1 : p = q) (h2 : a = b) (h3 : c = d) :
    Cert.ReferenceIdeal.Read.val_main_v24 (F := Ideal) x p a c = Cert.ReferenceIdeal.Read.val_main_v24 (F := Ideal) y q b d := by
  rw [h0, h1, h2, h3]

/-- The algebraic claim: both programs run, from equal arguments, to equal results. -/
theorem algebraic : Cert.algebraic_KernelIdeal_ReferenceIdeal := by
  intro m g m' g' hpre hagree
  have hs := sorted_kernelIdeal m hpre
  refine ⟨fun c => result m c, (θ_run Cert.KernelIdeal.defs _ _).mono
    (fun _ h c => ⟨(h.1 c).2.2.2.2, (h.1 c).1, (h.1 c).2.1, (h.1 c).2.2.1, (h.1 c).2.2.2.1⟩) (run_main m g (ok_of_sorted m hs)),
    (θ_run Cert.ReferenceIdeal.defs _ _).mono (fun _ h c => ⟨(h c).1.trans ?_, (h c).2⟩) (Cert.ReferenceIdeal.Value.run (F := Ideal) m' g')⟩
  refine (Cert.ReferenceIdeal.Read.val_main_v24_eq _).trans ?_
  exact (v24_congr (hagree c).1 (hagree c).2.1 (hagree c).2.2.1 (hagree c).2.2.2).trans (value_eq m c (hs c))

end Cert.Proof

end
-- ==== Proof.lean ====
/-
  The certificate's claim, put together from the frames and the algebraic claim.
-/
module

public import proofs.«01_k».proof.Proof.Frames
public import proofs.«01_k».proof.Proof.Equal

@[expose] public section

namespace Cert.Proof

/-- `Cert.Claim`: the kernel, its idealization and the reference each run to the end with their arguments unchanged and
    every semaphore at zero; the idealization is the kernel's own text; and its result is the reference's. -/
theorem claim : Cert.Claim :=
  ⟨Cert.Kernel.Gen.facts, Cert.KernelIdeal.Gen.facts, Cert.ReferenceIdeal.Gen.facts, Cert.Pre_bounds.Gen.facts,
    frame_kernel, frame_kernelIdeal, frame_reference, frame_reference_bounds, trivial, algebraic⟩

end Cert.Proof
